-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S64x768 : Shape := ⟨2, ![64, 768]⟩
abbrev S64x768x384 : Shape := ⟨3, ![64, 768, 384]⟩
abbrev S64x384x768 : Shape := ⟨3, ![64, 384, 768]⟩
abbrev S2048x768 : Shape := ⟨2, ![2048, 768]⟩
abbrev S2048x64 : Shape := ⟨2, ![2048, 64]⟩
abbrev S2048 : Shape := ⟨1, ![2048]⟩
abbrev S2048x1 : Shape := ⟨2, ![2048, 1]⟩
abbrev S1x768x384 : Shape := ⟨3, ![1, 768, 384]⟩
abbrev S1x384x768 : Shape := ⟨3, ![1, 384, 768]⟩
abbrev S768x384 : Shape := ⟨2, ![768, 384]⟩
abbrev S2048x384 : Shape := ⟨2, ![2048, 384]⟩
abbrev S384x768 : Shape := ⟨2, ![384, 768]⟩

abbrev nBuf : Space → Nat
  | .hbm => 13
  | .vmem => 12
  | .smem => 0
  | _ => 0

abbrev bufTy : (tb : Table) → Fin (tcTables nBuf tb) → BufTy
  | .hbm, ⟨0, _⟩ => ⟨S1x2048x768, .f32⟩
  | .hbm, ⟨1, _⟩ => ⟨S64x768, .f32⟩
  | .hbm, ⟨2, _⟩ => ⟨S64x768x384, .f32⟩
  | .hbm, ⟨3, _⟩ => ⟨S64x768x384, .f32⟩
  | .hbm, ⟨4, _⟩ => ⟨S64x384x768, .f32⟩
  | .hbm, ⟨5, _⟩ => ⟨S2048x768, .f32⟩
  | .hbm, ⟨6, _⟩ => ⟨S2048x64, .f32⟩
  | .hbm, ⟨7, _⟩ => ⟨S2048x768, .bf16⟩
  | .hbm, ⟨8, _⟩ => ⟨S64x768x384, .bf16⟩
  | .hbm, ⟨9, _⟩ => ⟨S64x768x384, .bf16⟩
  | .hbm, ⟨10, _⟩ => ⟨S64x384x768, .bf16⟩
  | .hbm, ⟨11, _⟩ => ⟨S2048x768, .f32⟩
  | .hbm, ⟨12, _⟩ => ⟨S1x2048x768, .f32⟩
  | .local _ .vmem, ⟨0, _⟩ => ⟨S2048x768, .f32⟩
  | .local _ .vmem, ⟨1, _⟩ => ⟨S64x768, .f32⟩
  | .local _ .vmem, ⟨2, _⟩ => ⟨S2048x64, .f32⟩
  | .local _ .vmem, ⟨3, _⟩ => ⟨S2048x768, .bf16⟩
  | .local _ .vmem, ⟨4, _⟩ => ⟨S1x768x384, .bf16⟩
  | .local _ .vmem, ⟨5, _⟩ => ⟨S1x768x384, .bf16⟩
  | .local _ .vmem, ⟨6, _⟩ => ⟨S1x768x384, .bf16⟩
  | .local _ .vmem, ⟨7, _⟩ => ⟨S1x768x384, .bf16⟩
  | .local _ .vmem, ⟨8, _⟩ => ⟨S1x384x768, .bf16⟩
  | .local _ .vmem, ⟨9, _⟩ => ⟨S1x384x768, .bf16⟩
  | .local _ .vmem, ⟨10, _⟩ => ⟨S2048x64, .f32⟩
  | .local _ .vmem, ⟨11, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_18 : BitVec 32 := 0#32
  let v30 : BitVec 1 := Scalar.cmpi .ne v29 c0_i32_18
  v30

def k1_cond2 (i : grid1.Coords) : BitVec 1 :=
  let arg0 : BitVec 32 := BitVec.ofNat 32 (i 0).val
  let c0_i32_19 : BitVec 32 := 0#32
  let v31 : BitVec 1 := Scalar.cmpi .ne arg0 c0_i32_19
  let v32 : BitVec 32 := Scalar.extui v31
  let c0_i32_20 : BitVec 32 := 0#32
  let v33 : BitVec 1 := Scalar.cmpi .ne v32 c0_i32_20
  v33

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x768x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x768x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x384x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S1x2048x768 : Shape := ⟨3, ![1, 2048, 768]⟩
abbrev S64x768 : Shape := ⟨2, ![64, 768]⟩
abbrev S64x768x384 : Shape := ⟨3, ![64, 768, 384]⟩
abbrev S64x384x768 : Shape := ⟨3, ![64, 384, 768]⟩
abbrev S2048x768 : Shape := ⟨2, ![2048, 768]⟩
abbrev S768x64 : Shape := ⟨2, ![768, 64]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S2048x8x1 : Shape := ⟨3, ![2048, 8, 1]⟩
abbrev S2048x8x2 : Shape := ⟨3, ![2048, 8, 2]⟩
abbrev S64x384x2048 : Shape := ⟨3, ![64, 384, 2048]⟩
abbrev S64x2048x384 : Shape := ⟨3, ![64, 2048, 384]⟩
abbrev S64x2048x768 : Shape := ⟨3, ![64, 2048, 768]⟩

abbrev nBuf : Space → Nat
  | .hbm => 69
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S64x768, .f32⟩
  | .hbm, ⟨2, _⟩ => ⟨S64x768x384, .f32⟩
  | .hbm, ⟨3, _⟩ => ⟨S64x768x384, .f32⟩
  | .hbm, ⟨4, _⟩ => ⟨S64x384x768, .f32⟩
  | .hbm, ⟨5, _⟩ => ⟨S2048x768, .f32⟩
  | .hbm, ⟨6, _⟩ => ⟨S768x64, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x64, .f32⟩
  | .hbm, ⟨21, _⟩ => ⟨S2048x64, .f32⟩
  | .hbm, ⟨22, _⟩ => ⟨S2048x8, .f32⟩
  | .hbm, ⟨23, _⟩ => ⟨S2048x8, .i32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x8, .f32⟩
  | .hbm, ⟨28, _⟩ => ⟨S2048x8, .f32⟩
  | .hbm, ⟨29, _⟩ => ⟨S_, .f32⟩
  | .hbm, ⟨30, _⟩ => ⟨S2048x64, .f32⟩
  | .hbm, ⟨31, _⟩ => ⟨S2048, .i32⟩
  | .hbm, ⟨32, _⟩ => ⟨S2048x1, .i32⟩
  | .hbm, ⟨33, _⟩ => ⟨S_, .i32⟩
  | .hbm, ⟨34, _⟩ => ⟨S2048x1, .i32⟩
  | .hbm, ⟨35, _⟩ => ⟨S2048x1, .i1⟩
  | .hbm, ⟨36, _⟩ => ⟨S_, .i32⟩
  | .hbm, ⟨37, _⟩ => ⟨S2048x1, .i32⟩
  | .hbm, ⟨38, _⟩ => ⟨S2048x1, .i32⟩
  | .hbm, ⟨39, _⟩ => ⟨S2048x1, .i32⟩
  | .hbm, ⟨40, _⟩ => ⟨S_, .i32⟩
  | .hbm, ⟨41, _⟩ => ⟨S2048x8, .i32⟩
  | .hbm, ⟨42, _⟩ => ⟨S2048x8, .i1⟩
  | .hbm, ⟨43, _⟩ => ⟨S_, .i32⟩
  | .hbm, ⟨44, _⟩ => ⟨S2048x8, .i32⟩
  | .hbm, ⟨45, _⟩ => ⟨S2048x8, .i32⟩
  | .hbm, ⟨46, _⟩ => ⟨S2048x8, .i32⟩
  | .hbm, ⟨47, _⟩ => ⟨S2048x8, .i32⟩
  | .hbm, ⟨48, _⟩ => ⟨S2048x8x1, .i32⟩
  | .hbm, ⟨49, _⟩ => ⟨S2048x8x1, .i32⟩
  | .hbm, ⟨50, _⟩ => ⟨S2048x8x2, .i32⟩
  | .hbm, ⟨51, _⟩ => ⟨S2048x64, .f32⟩
  | .hbm, ⟨52, _⟩ => ⟨S64x384x2048, .f32⟩
  | .hbm, ⟨53, _⟩ => ⟨S64x2048x384, .f32⟩
  | .hbm, ⟨54, _⟩ => ⟨S64x384x2048, .f32⟩
  | .hbm, ⟨55, _⟩ => ⟨S64x2048x384, .f32⟩
  | .hbm, ⟨56, _⟩ => ⟨S64x2048x384, .f32⟩
  | .hbm, ⟨57, _⟩ => ⟨S64x2048x384, .f32⟩
  | .hbm, ⟨58, _⟩ => ⟨S_, .f32⟩
  | .hbm, ⟨59, _⟩ => ⟨S64x2048x384, .f32⟩
  | .hbm, ⟨60, _⟩ => ⟨S64x2048x384, .f32⟩
  | .hbm, ⟨61, _⟩ => ⟨S_, .f32⟩
  | .hbm, ⟨62, _⟩ => ⟨S64x2048x384, .f32⟩
  | .hbm, ⟨63, _⟩ => ⟨S64x2048x384, .f32⟩
  | .hbm, ⟨64, _⟩ => ⟨S64x2048x384, .f32⟩
  | .hbm, ⟨65, _⟩ => ⟨S64x2048x384, .f32⟩
  | .hbm, ⟨66, _⟩ => ⟨S64x2048x768, .f32⟩
  | .hbm, ⟨67, _⟩ => ⟨S2048x768, .f32⟩
  | .hbm, ⟨68, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.Router.lean ====
/-
  The first kernel call of the program: the router.

  It has no grid. It loads the token rows and the router weights, both staged whole, computes the combine weights of
  every token and stores them. This module runs its body, states its proof data at any contents of the buffers on entry
  (`dat`), and reads what the call leaves in its result array (`final`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Pipeline.Value
public import Idealize.ShloMosaic.Lib.Ring
public import Idealize.ShloMosaic.Lib.Tactic

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

/-- The lane numbers `0 … 63` along each row. -/
def lanes : IVec S2048x64 32 := iota .tc S2048x64 32 [1] iota_S2048x64_d1_w32

/-- The combine weights the body stores, from the token rows `x` and the router weights `wg`. -/
def combine (x : Vec F S2048x768 .f32) (wg : Vec F S64x768 .f32) : Vec F S2048x64 .f32 :=
  k0_pay1 (k0_pay2 x wg) lanes (k0_pay14 lanes (k0_pay6 x wg) (k0_pay7 x wg) (k0_pay8 x wg))
    (k0_pay15 lanes (k0_pay7 x wg) (k0_pay8 x wg)) (k0_pay16 lanes (k0_pay7 x wg) (k0_pay8 x wg))

abbrev rx : Rect S2048x768 := Rect.unit (s := S2048x768) ![0, 0] S2048x768.size inb_S2048x768_S2048x768_0_0
abbrev rwt : Rect S64x768 := Rect.unit (s := S64x768) ![0, 0] S64x768.size inb_S64x768_S64x768_0_0
abbrev ro : Rect S2048x64 := Rect.unit (s := S2048x64) ![0, 0] S2048x64.size inb_S2048x64_S2048x64_0_0

theorem ld_x (x : Vec F S2048x768 .f32) : View.ld x rx = x := View.ld_unit_lit _ x (by decide)
theorem ld_wg (x : Vec F S64x768 .f32) : View.ld x rwt = x := View.ld_unit_lit _ x (by decide)

theorem cover (p : Vec F S2048x64 .f32) (y : S2048x64.Idx) :
    ∃ pc ∈ ([⟨ro, p⟩] : List (View.Piece (Elt F) S2048x64 .f32)), y ∈ pc.1.set :=
  View.cover_of_tiled [⟨ro, p⟩] S2048x64.size (by rfl) y

theorem canon_one (p : Vec F S2048x64 .f32) : View.canon ([⟨ro, p⟩] : List (View.Piece (Elt F) S2048x64 .f32)) = p :=
  View.canon_cons_unit_lit _ p [] (by decide)

set_option maxHeartbeats 1000000 in
/-- The body on whole staging buffers: the inputs keep their contents and the result holds `combine` of them. -/
theorem run (c : Dev nD) (E : Set ℕ) (arg0 : Memref sig .tc .vmem S2048x768 .f32) (harg0 : arg0.IsWhole) (arg1 : Memref sig .tc .vmem S64x768 .f32) (harg1 : arg1.IsWhole) (arg2 : Memref sig .tc .vmem S2048x64 .f32) (harg2 : arg2.IsWhole)
    (x0 : Vec F S2048x768 .f32) (x1 : Vec F S64x768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (combine x0 x1)) -∗ K ⟨⟩))
      ⊢ wp frame (wpE (defs₀ (F := F)) Variants.none c none) E (cc0__router_kernel arg0 harg0 arg1 harg1 arg2 harg2) K := by
  simp only [cc0__router_kernel_eq_skeleton]; unfold cc0__router_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [← ld_x (arg0.view.read (Elt F) f0), ← ld_wg (arg1.view.read (Elt F) f1)]
  refine (View.read_writes_eq_canon _ _ _ (cover _)).trans ?_
  refine (canon_one _).trans ?_
  rfl

/-! ## The proof data, at any contents on entry -/

variable (V : (c : Dev nD) → Valuation τ sig (Elt F))

/-- Window `w`'s block at point `t`, read off its array on entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The arrays as found; after the body each input's buffer at its block and the result's at `combine` of them; what is
    carried is the scoped buffers the call does not stage; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => combine (iblk V c 0 t) (iblk V c 1 t)
  Φ _ := Pipeline.scopedRest (Ix := Unit) (Name := ℕ) (U := UR sig nD τ) (Lvl := ℕ) (Val := Elt F) spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = combine (iblk V c 0 t) (iblk V c 1 t) := by dsimp only [dat]
theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-- What the body is called with, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c Set.univ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the call leaves in its result array. -/
def final (c : Dev nD) : Buf (Elt F) ((c : Thread nD τ).loc main_call0_v1) := (dat V c).arrAt 2 cfg0.N

/-! ## What the call leaves in its result array -/

theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)

theorem emb0 (t : Fin cfg0.N) (j : S2048x768.Idx) : ((cfg0.win 0).blk t).view.emb j = j := by
  obtain ⟨e0, e1⟩ := idx_zero0 t
  funext a; apply Fin.ext
  match a with
  | ⟨0, _⟩ => show win0_0.index t (0 : Fin 2) * 2048 + 1 * (j 0).val = (j 0).val; omega
  | ⟨1, _⟩ => show win0_0.index t (1 : Fin 2) * 768 + 1 * (j 1).val = (j 1).val; omega
theorem emb1 (t : Fin cfg0.N) (j : S64x768.Idx) : ((cfg0.win 1).blk t).view.emb j = j := by
  obtain ⟨e0, e1⟩ := idx_zero1 t
  funext a; apply Fin.ext
  match a with
  | ⟨0, _⟩ => show win0_1.index t (0 : Fin 2) * 64 + 1 * (j 0).val = (j 0).val; omega
  | ⟨1, _⟩ => show win0_1.index t (1 : Fin 2) * 768 + 1 * (j 1).val = (j 1).val; omega
theorem emb2 (t : Fin cfg0.N) (j : S2048x64.Idx) : ((cfg0.win 2).blk t).view.emb j = j := by
  obtain ⟨e0, e1⟩ := idx_zero2 t
  funext a; apply Fin.ext
  match a with
  | ⟨0, _⟩ => show win0_2.index t (0 : Fin 2) * 2048 + 1 * (j 0).val = (j 0).val; omega
  | ⟨1, _⟩ => show win0_2.index t (1 : Fin 2) * 64 + 1 * (j 1).val = (j 1).val; omega

theorem iblk0_eq (c : Dev nD) (t : Fin cfg0.N) : iblk V c 0 t = V c main_call0_v0 := by
  funext j; show V c main_call0_v0 (((cfg0.win 0).blk t).view.emb j) = V c main_call0_v0 j; rw [emb0]
theorem iblk1_eq (c : Dev nD) (t : Fin cfg0.N) : iblk V c 1 t = V c main_arg1 := by
  funext j; show V c main_arg1 (((cfg0.win 1).blk t).view.emb j) = V c main_arg1 j; rw [emb1]

theorem cut2_eq (t : Fin cfg0.N) (X : Vec F S2048x64 .f32) :
    (cfg0.win 2).cut (grid0.coords t) X = ((cfg0.win 2).blk t).view.read (Elt F) X := by
  funext j
  show X j = X (((cfg0.win 2).blk t).view.emb j)
  rw [emb2]

theorem flushed2_eq (c : Dev nD) (t : Fin cfg0.N) :
    (dat V c).flushed 2 t = ((cfg0.win 2).blk t).view.read (Elt F) (combine (V c main_call0_v0) (V c main_arg1)) := by
  show (cfg0.win 2).cut (grid0.coords t) ((dat V c).after 2 t) = _
  rw [after_2, iblk0_eq, iblk1_eq]
  exact cut2_eq t _

theorem covered2 (i : S2048x64.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The result array holds `combine` of the two operands' arrays as found. -/
theorem final_eq (c : Dev nD) : final V c = combine (V c main_call0_v0) (V c main_arg1) :=
  (dat V c).arrAt_eq_of_cover 2 (combine (V c main_call0_v0) (V c main_arg1)) (fun t _ => flushed2_eq V c t) covered2

end Cert.KernelIdeal.Router

end
-- ==== Proof.Expert.lean ====
/-
  The second kernel call of the program: the experts.

  Its grid has 64 points, one an expert. Point `e` computes the contribution of expert `e` to every token, `contrib`, from
  the token rows, the expert's three weight matrices and the combine weights. The result's block is the whole result array
  at every point: point 0 stores the contribution, a later point adds to what the buffer holds, and the buffer is written
  back after the last. This module runs the body in the two cases, states the proof data at any contents of the buffers on
  entry (`dat`), and reads what the call leaves in its result array (`final`, `final_eq`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.WordCmp
public import Idealize.ShloMosaic.Lib.Pipeline.ValueKit.Basic
public import Idealize.ShloMosaic.Lib.Pipeline.Value
public import Idealize.ShloMosaic.Lib.Ring
public import Idealize.ShloMosaic.Lib.Tactic

@[expose] public section

set_option maxRecDepth 16384

noncomputable section

namespace Cert.KernelIdeal.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond_0 (i : grid1.Coords) : Prop := k1_cond1 i = 1#1
/-- It holds at the first point only — by arithmetic of the point. -/
theorem hcond_0 : ∀ t : Fin cfg1.N, cond_0 (grid1.coords t) ↔ t.val % 64 = 0 :=
  (fun t => by
    have ht : t.val < 64 := Nat.lt_of_lt_of_eq t.isLt N_1
    have e0 : (grid1.coords t 0).val = t.val / 1 % 64 := Pipeline.Grid.coords_val t 0 (by decide) rfl
    simp only [cond_0, k1_cond1, e0]
    word_cmp
   : ∀ t : Fin grid1.N, cond_0 (grid1.coords t) ↔ t.val % 64 = 0)

/-- The condition of the body's `scf.if` 1 (`k0_h2`), from the grid coordinates (the skeleton's scalar
    chain substituted). -/
abbrev cond_1 (i : grid1.Coords) : Prop := k1_cond2 i = 1#1
/-- It holds at the points from point 1 on — by arithmetic of the point. -/
theorem hcond_1 : ∀ t : Fin cfg1.N, cond_1 (grid1.coords t) ↔ 1 ≤ t.val :=
  (fun t => by
    have ht : t.val < 64 := Nat.lt_of_lt_of_eq t.isLt N_1
    have e0 : (grid1.coords t 0).val = t.val / 1 % 64 := Pipeline.Grid.coords_val t 0 (by decide) rfl
    simp only [cond_1, k1_cond2, e0]
    word_cmp
   : ∀ t : Fin grid1.N, cond_1 (grid1.coords t) ↔ 1 ≤ t.val)

/-! ## Where the windows are idle (the printed configuration's table `Cfg.idle`) -/

/-- Window 0 is never idle (an input). -/
theorem liveAt_0 : ∀ t : Fin cfg1.N, cfg1.idle 0 (grid1.coords t) = false := fun _ => rfl
/-- Window 1 is never idle (an input). -/
theorem liveAt_1 : ∀ t : Fin cfg1.N, cfg1.idle 1 (grid1.coords t) = false := fun _ => rfl
/-- Window 2 is never idle (an input). -/
theorem liveAt_2 : ∀ t : Fin cfg1.N, cfg1.idle 2 (grid1.coords t) = false := fun _ => rfl
/-- Window 3 is never idle (an input). -/
theorem liveAt_3 : ∀ t : Fin cfg1.N, cfg1.idle 3 (grid1.coords t) = false := fun _ => rfl
/-- Window 4 is never idle (an input). -/
theorem liveAt_4 : ∀ t : Fin cfg1.N, cfg1.idle 4 (grid1.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab_5_step` checks it against the configuration's own
    step point by point and Lib/Pipeline/TableIdle.lean `Cfg.fresh_tab` makes it `Cfg.fresh` (`fresh_5_eq`). -/
def freshTab_5 : ℕ → Bool
  | 0 => true
  | n + 1 => (0x8000000000000000 : ℕ).testBit n
theorem freshTab_5_step : ∀ t : Fin cfg1.N,
    freshTab_5 (t.val + 1) = ((cfg1.win 5).flush t || (cfg1.idle 5 (cfg1.grid.coords t) && freshTab_5 t.val)) := by decide +kernel
theorem fresh_5_eq (t : Fin cfg1.N) : cfg1.fresh 5 t.val = freshTab_5 t.val :=
  Pipeline.Cfg.fresh_tab cfg1 5 freshTab_5 rfl freshTab_5_step t.val (Nat.le_of_lt t.isLt)
/-- At the points of case A the printed configuration (`Cfg.idle`) calls output 5 live: the case stores into it. -/
theorem liveAt_5_A : ∀ t : Fin cfg1.N, cond_0 (grid1.coords t) → ¬cond_1 (grid1.coords t) → cfg1.idle 5 (grid1.coords t) = false := by decide +kernel
/-- At the points of case B the printed configuration (`Cfg.idle`) calls output 5 live: the case stores into it. -/
theorem liveAt_5_B : ∀ t : Fin cfg1.N, ¬cond_0 (grid1.coords t) → cond_1 (grid1.coords t) → cfg1.idle 5 (grid1.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab_5`). -/
theorem notFresh_5_B : ∀ t : Fin cfg1.N, ¬cond_0 (grid1.coords t) → cond_1 (grid1.coords t) → cfg1.fresh 5 t.val = false := by
  intro t; rw [fresh_5_eq t]; revert t; decide +kernel

/-! ## What the body stores -/

abbrev rx : Rect S2048x768 := Rect.unit (s := S2048x768) ![0, 0] S2048x768.size inb_S2048x768_S2048x768_0_0
abbrev rwt : Rect S1x768x384 := Rect.unit (s := S1x768x384) ![0, 0, 0] S1x768x384.size inb_S1x768x384_S1x768x384_0_0_0
abbrev rv : Rect S1x384x768 := Rect.unit (s := S1x384x768) ![0, 0, 0] S1x384x768.size inb_S1x384x768_S1x384x768_0_0_0
abbrev rc : Rect S2048x64 := Rect.unit (s := S2048x64) ![0, 0] S2048x64.size inb_S2048x64_S2048x64_0_0

theorem ld_x (x : Vec F S2048x768 .bf16) : View.ld x rx = x := View.ld_unit_lit _ x (by decide)
theorem ld_w (x : Vec F S1x768x384 .bf16) : View.ld x rwt = x := View.ld_unit_lit _ x (by decide)
theorem ld_v (x : Vec F S1x384x768 .bf16) : View.ld x rv = x := View.ld_unit_lit _ x (by decide)
theorem ld_c (x : Vec F S2048x64 .f32) : View.ld x rc = x := View.ld_unit_lit _ x (by decide)
theorem ld_o (x : Vec F S2048x768 .f32) : View.ld x rx = x := View.ld_unit_lit _ x (by decide)

theorem cover (p : Vec F S2048x768 .f32) (y : S2048x768.Idx) :
    ∃ pc ∈ ([⟨rx, p⟩] : List (View.Piece (Elt F) S2048x768 .f32)), y ∈ pc.1.set :=
  View.cover_of_tiled [⟨rx, p⟩] S2048x768.size (by rfl) y

theorem canon_one (p : Vec F S2048x768 .f32) : View.canon ([⟨rx, p⟩] : List (View.Piece (Elt F) S2048x768 .f32)) = p :=
  View.canon_cons_unit_lit _ p [] (by decide)

/-- The contribution of a point: the expert's output at every token, times the token's combine weight for the expert. -/
def contrib (i : grid1.Coords) (x0 : Vec F S2048x768 .bf16) (x1 : Vec F S1x768x384 .bf16) (x2 : Vec F S1x768x384 .bf16) (x3 : Vec F S1x384x768 .bf16) (x4 : Vec F S2048x64 .f32) : FVec F S2048x768 .f32 :=
  k1_pay2 i x0 x1 x0 x2 x3 x4

set_option maxHeartbeats 1000000 in
/-- At the first point: the result's buffer is left at the point's contribution. -/
theorem runA (c : Dev nD) (E : Set ℕ) (i : grid1.Coords) (arg1 : Memref sig .tc .vmem S2048x768 .bf16) (harg1 : arg1.IsWhole) (arg2 : Memref sig .tc .vmem S1x768x384 .bf16) (harg2 : arg2.IsWhole) (arg3 : Memref sig .tc .vmem S1x768x384 .bf16) (harg3 : arg3.IsWhole) (arg4 : Memref sig .tc .vmem S1x384x768 .bf16) (harg4 : arg4.IsWhole) (arg5 : Memref sig .tc .vmem S2048x64 .f32) (harg5 : arg5.IsWhole) (arg6 : Memref sig .tc .vmem S2048x768 .f32) (harg6 : arg6.IsWhole) (hc0 : cond_0 i) (hc1 : ¬cond_1 i)
    (x0 : Vec F S2048x768 .bf16) (x1 : Vec F S1x768x384 .bf16) (x2 : Vec F S1x768x384 .bf16) (x3 : Vec F S1x384x768 .bf16) (x4 : Vec F S2048x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (contrib i x0 x1 x2 x3 x4)) -∗ K ⟨⟩))
      ⊢ wp frame (wpE (defs₀ (F := F)) Variants.none c none) E (cc1__expert_kernel i arg1 harg1 arg2 harg2 arg3 harg3 arg4 harg4 arg5 harg5 arg6 harg6) K := by
  simp only [cc1__expert_kernel_eq_skeleton]; unfold cc1__expert_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [← ld_x (arg1.view.read (Elt F) f0), ← ld_w (arg2.view.read (Elt F) f1), ← ld_w (arg3.view.read (Elt F) f2),
    ← ld_v (arg4.view.read (Elt F) f3), ← ld_c (arg5.view.read (Elt F) f4)]
  refine (View.read_writes_eq_canon _ _ _ (cover _)).trans ?_
  refine (canon_one _).trans ?_
  rfl

set_option maxHeartbeats 1000000 in
/-- At a later point: the result's buffer is left at what it held plus the point's contribution. -/
theorem runB (c : Dev nD) (E : Set ℕ) (i : grid1.Coords) (arg1 : Memref sig .tc .vmem S2048x768 .bf16) (harg1 : arg1.IsWhole) (arg2 : Memref sig .tc .vmem S1x768x384 .bf16) (harg2 : arg2.IsWhole) (arg3 : Memref sig .tc .vmem S1x768x384 .bf16) (harg3 : arg3.IsWhole) (arg4 : Memref sig .tc .vmem S1x384x768 .bf16) (harg4 : arg4.IsWhole) (arg5 : Memref sig .tc .vmem S2048x64 .f32) (harg5 : arg5.IsWhole) (arg6 : Memref sig .tc .vmem S2048x768 .f32) (harg6 : arg6.IsWhole) (hc0 : ¬cond_0 i) (hc1 : cond_1 i)
    (x0 : Vec F S2048x768 .bf16) (x1 : Vec F S1x768x384 .bf16) (x2 : Vec F S1x768x384 .bf16) (x3 : Vec F S1x384x768 .bf16) (x4 : Vec F S2048x64 .f32) (xo : Vec F S2048x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 (contrib i x0 x1 x2 x3 x4) xo)) -∗ K ⟨⟩))
      ⊢ wp frame (wpE (defs₀ (F := F)) Variants.none c none) E (cc1__expert_kernel i arg1 harg1 arg2 harg2 arg3 harg3 arg4 harg4 arg5 harg5 arg6 harg6) K := by
  simp only [cc1__expert_kernel_eq_skeleton]; unfold cc1__expert_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [← ld_x (arg1.view.read (Elt F) f0), ← ld_w (arg2.view.read (Elt F) f1), ← ld_w (arg3.view.read (Elt F) f2),
    ← ld_v (arg4.view.read (Elt F) f3), ← ld_c (arg5.view.read (Elt F) f4), ← ld_o (arg6.view.read (Elt F) f5)]
  refine (View.read_writes_eq_canon _ _ _ (cover _)).trans ?_
  refine (canon_one _).trans ?_
  rfl

/-! ## The staging buffers at a point -/

/-- Each window's current staging memref at point `t`, spelled as the pipeline passes it (`bodyAt0`), and its wholeness. -/
abbrev ms_0 (t : Fin cfg1.N) : Memref sig .tc .vmem S2048x768 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x768x384 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x768x384 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x384x768 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S2048x64 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S2048x768 .f32 := win1_5.stage (cfg1.slots t 5)
abbrev hs_5 (t : Fin cfg1.N) : (ms_5 t).IsWhole := hstage1_5 ((cfg1.slots t 5).cast nbuf1_5)

/-! ## The proof data, at any contents on entry -/

variable (V : (c : Dev nD) → Valuation τ sig (Elt F))

/-- Window `w`'s block at point `t`, read off its array on entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The contribution of point `t`. -/
def contribAt (c : Dev nD) (t : Fin cfg1.N) : FVec F S2048x768 .f32 :=
  contrib (grid1.coords t) (iblk V c 0 t) (iblk V c 1 t) (iblk V c 2 t) (iblk V c 3 t) (iblk V c 4 t)

/-- What the result's buffer holds after point `n`: the contributions up to it, added in order. -/
def outsAt (c : Dev nD) : (n : ℕ) → n < cfg1.N → Vec F S2048x768 .f32
  | 0, hn => contribAt V c ⟨0, hn⟩
  | n + 1, hn => k1_pay1 (contribAt V c ⟨n + 1, hn⟩) (outsAt c n (Nat.lt_of_succ_lt hn))

theorem outsAt_first (c : Dev nD) (t : Fin cfg1.N) (h : t.val = 0) :
    outsAt V c t.val t.isLt = contrib (grid1.coords t) (iblk V c 0 t) (iblk V c 1 t) (iblk V c 2 t) (iblk V c 3 t) (iblk V c 4 t) := by
  obtain ⟨n, hn⟩ := t
  cases n with
  | zero => exact rfl
  | succ n => exact absurd h (Nat.succ_ne_zero n)

theorem outsAt_next (c : Dev nD) (t : Fin cfg1.N) (h : 1 ≤ t.val) :
    outsAt V c t.val t.isLt = k1_pay1 (contrib (grid1.coords t) (iblk V c 0 t) (iblk V c 1 t) (iblk V c 2 t) (iblk V c 3 t) (iblk V c 4 t))
      (outsAt V c (t.val - 1) (Nat.lt_of_le_of_lt (Nat.sub_le _ _) t.isLt)) := by
  obtain ⟨n, hn⟩ := t
  cases n with
  | zero => exact absurd h (by simp)
  | succ n => exact rfl

/-- The arrays as found; after the body each input's buffer at its block and the result's at `outsAt`; what is carried is
    the scoped buffers the call does not stage; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outsAt V c t.val t.isLt
  Φ _ := Pipeline.scopedRest (Ix := Unit) (Name := ℕ) (U := UR sig nD τ) (Lvl := ℕ) (Val := Elt F) spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outsAt V c t.val t.isLt := by dsimp only [dat]
theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d
theorem before_4 (c : Dev nD) (t : Fin cfg1.N) (d) : (dat V c).before 4 t d = iblk V c 4 t :=
  before4_of V (dat V c) (A_eq V c 4) (after_4 V c) t d

/-- The result's window is idle at no point. -/
theorem hcarry (c : Dev nD) : ∀ (t : Fin cfg1.N) (_ : t.val ≠ 0), cfg1.idle 5 (grid1.coords t) = true → cfg1.fresh 5 t.val = false →
    (dat V c).after 5 t = (dat V c).after 5 ⟨t.val - 1, by omega⟩ := by
  intro t _ hi _
  have hN : t.val < 64 := lt_of_lt_of_eq t.isLt (show cfg1.N = 64 from N_1)
  by_cases h0 : t.val % 64 = 0
  · by_cases h1 : 1 ≤ t.val
    · exfalso; omega
    · rw [liveAt_5_A t ((hcond_0 t).mpr h0) (fun h => h1 ((hcond_1 t).mp h))] at hi
      exact absurd hi Bool.false_ne_true
  · by_cases h1 : 1 ≤ t.val
    · rw [liveAt_5_B t (fun h => h0 ((hcond_0 t).mp h)) ((hcond_1 t).mpr h1)] at hi
      exact absurd hi Bool.false_ne_true
    · exfalso; omega

/-- After the first point the result's buffer holds what the point before left. -/
theorem before_5 (c : Dev nD) (t : Fin cfg1.N) (h0 : ¬t.val % 64 = 0) (h1 : 1 ≤ t.val) (d) :
    (dat V c).before 5 t d = outsAt V c (t.val - 1) (Nat.lt_of_le_of_lt (Nat.sub_le _ _) t.isLt) := by
  rw [Dat.before_out_traj _ 5 rfl (fun _ _ => rfl) (hcarry V c) t.val t rfl d,
    if_neg (by rw [notFresh_5_B t (fun h => h0 ((hcond_0 t).mp h)) ((hcond_1 t).mpr h1)]; exact Bool.false_ne_true)]
  dsimp only [dat]

/-- What the body is called with, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl]
  have hN : t.val < 64 := lt_of_lt_of_eq t.isLt (show cfg1.N = 64 from N_1)
  by_cases h0 : t.val % 64 = 0
  · by_cases h1 : 1 ≤ t.val
    · exfalso; omega
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5_A t ((hcond_0 t).mpr h0) (fun h => h1 ((hcond_1 t).mp h))], after_5]
      rw [outsAt_first V c t (by omega)]
      iintro ⟨HΦ, Ho, ⟨%d0, H0⟩, ⟨%d1, H1⟩, ⟨%d2, H2⟩, ⟨%d3, H3⟩, ⟨%d4, H4⟩, ⟨%d5, H5⟩⟩
      iapply (runA c Set.univ (grid1.coords t) _ _ _ _ _ _ _ _ _ _ _ _ ((hcond_0 t).mpr h0) (fun h => h1 ((hcond_1 t).mp h)) (iblk V c 0 t) (iblk V c 1 t) (iblk V c 2 t) (iblk V c 3 t) (iblk V c 4 t) _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · by_cases h1 : 1 ≤ t.val
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5_B t (fun h => h0 ((hcond_0 t).mp h)) ((hcond_1 t).mpr h1)], after_5]
      rw [outsAt_next V c t h1]
      simp only [before_5 V c t h0 h1]
      iintro ⟨HΦ, Ho, ⟨%d0, H0⟩, ⟨%d1, H1⟩, ⟨%d2, H2⟩, ⟨%d3, H3⟩, ⟨%d4, H4⟩, ⟨%d5, H5⟩⟩
      iapply (runB c Set.univ (grid1.coords t) _ _ _ _ _ _ _ _ _ _ _ _ (fun h => h0 ((hcond_0 t).mp h)) ((hcond_1 t).mpr h1) (iblk V c 0 t) (iblk V c 1 t) (iblk V c 2 t) (iblk V c 3 t) (iblk V c 4 t) _ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · exfalso; omega

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the call leaves in its result array. -/
def final (c : Dev nD) : Buf (Elt F) ((c : Thread nD τ).loc main_call0_v6) := (dat V c).arrAt 5 cfg1.N

/-! ## What the call leaves in its result array -/

theorem idx_zero5 : ∀ t : Fin cfg1.N, win1_5.index t (0 : Fin 2) = 0 ∧ win1_5.index t (1 : Fin 2) = 0 :=
  (by decide +kernel : ∀ t : Fin grid1.N, _)

theorem emb5 (t : Fin cfg1.N) (j : S2048x768.Idx) : ((cfg1.win 5).blk t).view.emb j = j := by
  obtain ⟨e0, e1⟩ := idx_zero5 t
  funext a; apply Fin.ext
  match a with
  | ⟨0, _⟩ => show win1_5.index t (0 : Fin 2) * 2048 + 1 * (j 0).val = (j 0).val; omega
  | ⟨1, _⟩ => show win1_5.index t (1 : Fin 2) * 768 + 1 * (j 1).val = (j 1).val; omega

theorem cut5_eq (t : Fin cfg1.N) (X : Vec F S2048x768 .f32) :
    (cfg1.win 5).cut (grid1.coords t) X = ((cfg1.win 5).blk t).view.read (Elt F) X := by
  funext j
  show X j = X (((cfg1.win 5).blk t).view.emb j)
  rw [emb5]

/-- The last point. -/
def last : Fin cfg1.N := ⟨63, lt_of_lt_of_eq (by omega : 63 < 64) N_1.symm⟩

theorem eq_last (t : Fin cfg1.N) (h : (cfg1.win 5).flush t = true) : t = last := by
  have hN : t.val < 64 := lt_of_lt_of_eq t.isLt (show cfg1.N = 64 from N_1)
  have := (flush1_5 t).mp h
  apply Fin.ext
  show t.val = 63
  omega

theorem flush_last : (cfg1.win 5).flush last = true := (flush1_5 last).mpr rfl

theorem flushed5_eq (c : Dev nD) (t : Fin cfg1.N) (h : (cfg1.win 5).flush t = true) :
    (dat V c).flushed 5 t = ((cfg1.win 5).blk t).view.read (Elt F) (outsAt V c last.val last.isLt) := by
  obtain rfl := eq_last t h
  show (cfg1.win 5).cut (grid1.coords last) ((dat V c).after 5 last) = _
  rw [after_5]
  exact cut5_eq last _

theorem covered5 (i : S2048x768.Idx) :
    ∃ t : Fin cfg1.N, (cfg1.win 5).flush t = true ∧ i ∈ ((cfg1.win 5).blk t).view.set :=
  ⟨last, flush_last, by have h := ((cfg1.win 5).blk last).view.emb_mem_set i; rwa [emb5] at h⟩

/-- The result array holds the sum of every point's contribution. -/
theorem final_eq (c : Dev nD) : final V c = outsAt V c last.val last.isLt :=
  (dat V c).arrAt_eq_of_cover 5 (outsAt V c last.val last.isLt) (fun t h => flushed5_eq V c t h) covered5

end Cert.KernelIdeal.Expert

end
-- ==== Proof.Run.lean ====
/-
  The program's run: the two kernel calls between the host operations.

  `outs` names what each call leaves in its result array, `reg0` and `reg1` are the calls as segments of the program
  between the buffers' contents before and after, and `run` says that every execution ends with the result array at the
  contents after the last host operation, every argument as launched and every semaphore counter at zero.
-/
module

public import proofs.«01_k».proof.Proof.Router
public import proofs.«01_k».proof.Proof.Expert
public import proofs.«01_k».proof.Proof.Gen.KernelIdeal.Regions
public import Idealize.ShloMosaic.Lib.Pipeline.Frame
public import Idealize.ShloMosaic.Lib.Pipeline.Regions
public import Idealize.ShloMosaic.Lib.Pipeline.RegionsLoop
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- What the first call leaves: the result array of the router at its final contents, everything else as launched. -/
def outs0 : Outs (F := F) := fun _ r c =>
  Function.update (V0 m c) (Proc.devRef .tc main_call0_v1) (Router.final (fun c => V1 m c) c) (Proc.devRef .tc r)

/-- What the two calls leave: the first call's as `outs0`, the experts' result array at its final contents. -/
def outs : Outs (F := F) := fun J r c =>
  Function.update (fun b => Function.update (V0 m c) (Proc.devRef .tc main_call0_v1) (Router.final (fun c => V1 m c) c) b)
    (Proc.devRef .tc main_call0_v6) (Expert.final (fun c => V3 m (outs0 m) c) c) (Proc.devRef .tc r)

theorem outs0_v1 (J : ℕ) (c : Dev nD) : outs0 m J main_call0_v1 c = Router.final (fun c => V1 m c) c := by
  unfold outs0; exact Function.update_self _ _ _
theorem outs_v1 (J : ℕ) (c : Dev nD) : outs m J main_call0_v1 c = Router.final (fun c => V1 m c) c := by
  unfold outs
  rw [Function.update_of_ne (StableHlo.devRef_ne_of_ne (by decide) : (Proc.devRef .tc main_call0_v1 : DevRef τ sig) ≠ Proc.devRef .tc main_call0_v6)]
  exact Function.update_self _ _ _
theorem outs_v6 (J : ℕ) (c : Dev nD) : outs m J main_call0_v6 c = Expert.final (fun c => V3 m (outs0 m) c) c := by
  unfold outs; exact Function.update_self _ _ _

theorem V2_outs (c : Dev nD) : V2 m (outs m) c = V2 m (outs0 m) c := by
  unfold V2; rw [outs_v1, outs0_v1]
theorem V3_outs (c : Dev nD) : V3 m (outs m) c = V3 m (outs0 m) c := by
  unfold V3; rw [V2_outs]

/-- Core by core, the buffers before the first call and before the second. -/
abbrev W1 (c : Dev nD) : Valuation τ sig (Elt F) := V1 m c
abbrev W3 (c : Dev nD) : Valuation τ sig (Elt F) := V3 m (outs m) c

theorem W3_eq : W3 m = fun c => V3 m (outs0 m) c := funext fun c => V3_outs m c

theorem Router_out (c : Dev nD) : V2 m (outs m) c main_call0_v1 = Router.final (W1 m) c := by
  unfold V2; rw [Function.update_self, outs_v1]
theorem Router_ne (c : Dev nD) (b : Ref sig .tc) (h : b ≠ main_call0_v1) : V2 m (outs m) c b = W1 m c b :=
  V2_of m (outs m) c b (by simpa using h)
theorem Expert_out (c : Dev nD) : V4 m (outs m) c main_call0_v6 = Expert.final (W3 m) c := by
  unfold V4; rw [Function.update_self, outs_v6, W3_eq]
theorem Expert_ne (c : Dev nD) (b : Ref sig .tc) (h : b ≠ main_call0_v6) : V4 m (outs m) c b = W3 m c b :=
  V4_of m (outs m) c b (by simpa using h)

/-! ## The calls as segments -/

/-- Each call's proof data, at the buffers' contents before it. -/
def pdats : (p : Fin 2) → (c : Dev nD) → Dat τ (Elt F) Unit ℕ (UR sig nD τ) ℕ (cfgs p) c
  | ⟨0, _⟩ => fun c => Router.dat (W1 m) c
  | ⟨1, _⟩ => fun c => Expert.dat (W3 m) c

abbrev 𝒱₀ : Variants := Variants.none

/-- No core owes another anything: no level is assigned. -/
abbrev L : GSem nD τ sig → Finset Unit := fun _ => ∅
abbrev lv : GSem nD τ sig → Unit → ℕ := fun _ _ => 0

/-- What rides beside the buffers: the core owes nothing. -/
def rest (c : Dev nD) : sProp 𝕄 := iprop(∃ W, owes (c : Thread nD τ) (0 : CellTallies nD τ sig Unit) W)

-- the library's lemmas, stated at the pipelines' family, unify with the ones named here only when plain definitions may
-- be unfolded in a metavariable's type
set_option backward.isDefEq.respectTransparency.types false in
/-- The router call: its three arrays taken out of the buffers on entry, put back at their final contents on exit. -/
def reg0 : Pipeline.RegionSeg (pcfgs (F := F)) adm (pdats m) () defs₀ 𝒱₀ L lv 0 where
  win := (launch0).win.to₀
  block_pos := (launch0).block_pos
  stage_whole := (launch0).stage_whole
  K := PEmpty
  osem k := k.elim
  ho := Pipeline.OwnSemFacts.none _
  hbody c := (Router.body_obligation (W1 m) c).loose
  hwaits := Pipeline.hwaits_of_owed_zero _ _ _ _ L lv 0 fun _ _ => rfl
  pre c := iprop(StableHlo.held (c : Thread nD τ) (Pipeline.ucRefs τ sig) (W1 m c) ∗ rest c)
  post c := iprop(StableHlo.held (c : Thread nD τ) (Pipeline.ucRefs τ sig) (V2 m (outs m) c) ∗ rest c)
  X _ := BI.emp
  Y _ := BI.emp
  Z c := iprop(Pipeline.unscopedRest (Ix := Unit) (Name := ℕ) (U := UR sig nD τ) (Lvl := ℕ) spec0 c (fun b => W1 m c b))
  hentry c := by
    rw [Pipeline.ownSems0_none, ← Pipeline.unscopedBufs_held c (W1 m c)]
    have hsplit := Pipeline.arrays_of_unscopedBufs (p := 0) (pcfgs (F := F)) adm (pdats m) (launch0).win (launch0).arr_whole c
      ((pdats m 0 c).share_full fun _ => rfl) (fun b => W1 m c b) fun w => Router.A_eq (W1 m) c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rest Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [← Pipeline.unscopedBufs_held c (V2 m (outs m) c)]
    have hjoin := Pipeline.unscopedBufs_of_arrays (p := 0) (pcfgs (F := F)) adm (Ix := Unit) (Name := ℕ) (U := UR sig nD τ) (Lvl := ℕ) (launch0).win (launch0).arr_whole c
      (pdats m) ((pdats m 0 c).share_full fun _ => rfl) (fun b => W1 m c b) (fun b => V2 m (outs m) c b) ((pdats m 0 c).arrAt · cfg0.N)
      (fun w => by
        fin_cases w
        · exact ((pdats m 0 c).arrAt_in 0 rfl _).trans (Router_ne m c main_call0_v0 (by decide)).symm
        · exact ((pdats m 0 c).arrAt_in 1 rfl _).trans (Router_ne m c main_arg1 (by decide)).symm
        · exact (Router_out m c).symm)
      (fun b hb => Router_ne m c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold rest Pipeline.Dat.owesAt Pipeline.owesWithin
    icases HO with ⟨%W, -, HO⟩; iexists W; iexact HO

-- the library's lemmas, stated at the pipelines' family, unify with the ones named here only when plain definitions may
-- be unfolded in a metavariable's type
set_option backward.isDefEq.respectTransparency.types false in
/-- The experts call: its six arrays taken out of the buffers on entry, put back at their final contents on exit. -/
def reg1 : Pipeline.RegionSeg (pcfgs (F := F)) adm (pdats m) () defs₀ 𝒱₀ L lv 1 where
  win := (launch1).win.to₀
  block_pos := (launch1).block_pos
  stage_whole := (launch1).stage_whole
  K := PEmpty
  osem k := k.elim
  ho := Pipeline.OwnSemFacts.none _
  hbody c := (Expert.body_obligation (W3 m) c).loose
  hwaits := Pipeline.hwaits_of_owed_zero _ _ _ _ L lv 1 fun _ _ => rfl
  pre c := iprop(StableHlo.held (c : Thread nD τ) (Pipeline.ucRefs τ sig) (W3 m c) ∗ rest c)
  post c := iprop(StableHlo.held (c : Thread nD τ) (Pipeline.ucRefs τ sig) (V4 m (outs m) c) ∗ rest c)
  X _ := BI.emp
  Y _ := BI.emp
  Z c := iprop(Pipeline.unscopedRest (Ix := Unit) (Name := ℕ) (U := UR sig nD τ) (Lvl := ℕ) spec1 c (fun b => W3 m c b))
  hentry c := by
    rw [Pipeline.ownSems0_none, ← Pipeline.unscopedBufs_held c (W3 m c)]
    have hsplit := Pipeline.arrays_of_unscopedBufs (p := 1) (pcfgs (F := F)) adm (pdats m) (launch1).win (launch1).arr_whole c
      ((pdats m 1 c).share_full fun _ => rfl) (fun b => W3 m c b) fun w => Expert.A_eq (W3 m) c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rest Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    rw [← Pipeline.unscopedBufs_held c (V4 m (outs m) c)]
    have hjoin := Pipeline.unscopedBufs_of_arrays (p := 1) (pcfgs (F := F)) adm (Ix := Unit) (Name := ℕ) (U := UR sig nD τ) (Lvl := ℕ) (launch1).win (launch1).arr_whole c
      (pdats m) ((pdats m 1 c).share_full fun _ => rfl) (fun b => W3 m c b) (fun b => V4 m (outs m) c b) ((pdats m 1 c).arrAt · cfg1.N)
      (fun w => by
        fin_cases w
        · exact ((pdats m 1 c).arrAt_in 0 rfl _).trans (Expert_ne m c main_call0_v2 (by decide)).symm
        · exact ((pdats m 1 c).arrAt_in 1 rfl _).trans (Expert_ne m c main_call0_v3 (by decide)).symm
        · exact ((pdats m 1 c).arrAt_in 2 rfl _).trans (Expert_ne m c main_call0_v4 (by decide)).symm
        · exact ((pdats m 1 c).arrAt_in 3 rfl _).trans (Expert_ne m c main_call0_v5 (by decide)).symm
        · exact ((pdats m 1 c).arrAt_in 4 rfl _).trans (Expert_ne m c main_call0_v1 (by decide)).symm
        · exact (Expert_out m c).symm)
      (fun b hb => Expert_ne m c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold rest Pipeline.Dat.owesAt Pipeline.owesWithin
    icases HO with ⟨%W, -, HO⟩; iexists W; iexact HO

/-! ## The run -/

set_option backward.isDefEq.respectTransparency.types false in
/-- Every execution from zero counters terminates, with the result array at the contents after the last host operation,
    every argument as launched and every semaphore counter at zero. -/
theorem run : θ_run defs (onTc (τ := τ) (main (F := F))) ⟨m, fun _ => 0, ρ⟩ (fun r => (∀ c : Dev nD,
      r.2.mem ((c.tc : Thread nD τ).loc main_v0) = V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => rest) () (pdats m) (reg0 m) (reg1 m))
    (fun c Q => by
      rewrite [main_chain c, Seg.run_eq_chain,
        show (segs m (outs m) 𝒱₀ L lv (fun _ => rest) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp)) (initOf (Pipeline.cells cfgs cellOf_inj) (Pipeline.launchToks cfgs cellOf_inj))
    (by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, .rfl, .rfl, .rfl, .rfl, .rfl⟩)
    (hinit := ?_) (QY := fun c s => s.mem ((c.tc : Thread nD τ).loc main_v0) = V5 m (outs m) c main_v0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    unfold rest; iexists ∅; iexact HO
  · -- the end: the result's buffer and the arguments' read off the last contents
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c)⟩
    · iexact HSI

end Cert.KernelIdeal.Run

end
-- ==== Proof.Order.lean ====
/-
  Order facts about one row of 64 extended reals.

  The kernel picks eight lanes of a row by taking, eight times, the first lane that holds the row's greatest value and
  then overwriting that lane with minus infinity. The reference sorts the row from the greatest down, keeping equal values
  in lane order, and takes the first eight lanes. Here both are stated for a plain function on `Fin 64`, and shown to
  agree: when no value of the row is minus infinity, the lanes picked after `k` rounds are the first `k` of the sort
  (`held_iff`). The weights of the row follow (`weights_of_held`).
-/
module

public import Idealize.ShloMosaic.Lib.SortPrefix
public import Idealize.ShloMosaic.Lib.IdealHost

@[expose] public section

noncomputable section

namespace Cert.Row

open Idealize.ShloMosaic

/-! ## The sort -/

/-- Lane `k` holds a strictly greater value than lane `k'`. -/
def greater (f : Fin 64 → EReal) (k k' : Fin 64) : Bool := decide (f k' < f k)

/-- The same, with equal values ordered by the lane. -/
def ahead (f : Fin 64 → EReal) (k k' : Fin 64) : Bool :=
  decide (f k' < f k) || (decide (f k = f k') && decide (k < k'))

theorem ahead_strict (f : Fin 64 → EReal) : StrictTotalBefore (ahead f) :=
  StrictTotalBefore.of_key_then_position (fun a b => decide (b < a)) f (fun a => by simp)
    (fun a b c h h' => by simp only [decide_eq_true_eq] at *; exact lt_trans h' h)
    (fun a b => by
      simp only [decide_eq_true_eq]
      rcases lt_trichotomy b a with h | h | h
      · exact Or.inl h
      · exact Or.inr (Or.inl h.symm)
      · exact Or.inr (Or.inr h))

/-- Sorting lanes that stand in increasing order by their values alone leaves equal values in lane order. -/
theorem stableSort_greater (f : Fin 64 → EReal) (l : List (Fin 64)) (hl : l.Pairwise (· < ·)) :
    stableSort (greater f) l = stableSort (ahead f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬ b < a := not_lt.mpr hab.le
    simp [greater, ahead, this]

/-- The lane at place `k` of the row sorted from the greatest value down. -/
def place (f : Fin 64 → EReal) (k : Fin 64) : Fin 64 := sortedFrom (greater f) k

theorem sortedFrom_of_positions {n : Nat} {R R' : Fin n → Fin n → Bool} (h : sortPositions n R = sortPositions n R') :
    sortedFrom R = sortedFrom R' := by
  funext k
  unfold sortedFrom
  rw [List.get_of_eq h]
  rfl

theorem place_eq (f : Fin 64 → EReal) : place f = sortedFrom (ahead f) := by
  have h : sortPositions 64 (greater f) = sortPositions 64 (ahead f) :=
    stableSort_greater f _ (List.pairwise_lt_finRange 64)
  unfold place
  exact sortedFrom_of_positions h

theorem place_injective (f : Fin 64 → EReal) : Function.Injective (place f) := sortedFrom_injective _
theorem place_surjective (f : Fin 64 → EReal) : Function.Surjective (place f) := sortedFrom_surjective _

theorem place_def (f : Fin 64 → EReal) : place f = sortedFrom (greater f) := rfl

attribute [irreducible] place

/-- A later place is not ahead of an earlier one. -/
theorem place_order (f : Fin 64 → EReal) (i j : Fin 64) (h : i < j) : ahead f (place f j) (place f i) = false := by
  rw [place_eq]
  have hs := ahead_strict f
  exact sortedFrom_noInversion (ahead f) (ahead f) hs.asymm (fun _ _ h => h) hs.negTrans i j h

/-! ## Taking the first greatest lane -/

/-- Lane `i` is the first lane with the greatest value. -/
def IsFirst (g : Fin 64 → EReal) (i : Fin 64) : Prop := (∀ j, g j ≤ g i) ∧ ∀ j, j < i → g j < g i

theorem IsFirst.unique {g : Fin 64 → EReal} {i j : Fin 64} (hi : IsFirst g i) (hj : IsFirst g j) : i = j := by
  rcases lt_trichotomy i j with h | h | h
  · exact absurd (hj.2 i h) (not_lt.mpr (hi.1 j))
  · exact h
  · exact absurd (hi.2 j h) (not_lt.mpr (hj.1 i))

open Classical in
/-- The row after `k` rounds: each round overwrites the first greatest lane with minus infinity. -/
def left (f : Fin 64 → EReal) : ℕ → Fin 64 → EReal
  | 0 => f
  | k + 1 => fun i => if IsFirst (left f k) i then ⊥ else left f k i

/-- Lane `i` was taken in one of the first `k` rounds. -/
def held (f : Fin 64 → EReal) : ℕ → Fin 64 → Prop
  | 0 => fun _ => False
  | k + 1 => fun i => held f k i ∨ IsFirst (left f k) i

/-- Lane `i` is among the first `k` places of the sort. -/
def among (f : Fin 64 → EReal) (k : ℕ) (i : Fin 64) : Prop := ∃ j : Fin 64, j.val < k ∧ place f j = i

theorem among_succ (f : Fin 64 → EReal) (k : Fin 64) (i : Fin 64) :
    among f (k.val + 1) i ↔ among f k.val i ∨ i = place f k := by
  constructor
  · rintro ⟨j, hj, rfl⟩
    rcases Nat.lt_succ_iff_lt_or_eq.mp hj with h | h
    · exact Or.inl ⟨j, h, rfl⟩
    · exact Or.inr (by rw [Fin.ext h])
  · rintro (⟨j, hj, rfl⟩ | rfl)
    · exact ⟨j, by omega, rfl⟩
    · exact ⟨k, by omega, rfl⟩

open Classical in
/-- With the first `k` places overwritten, the first greatest lane is place `k`. -/
theorem isFirst_place (f : Fin 64 → EReal) (hf : ∀ i, f i ≠ ⊥) (k : Fin 64) :
    IsFirst (fun i => if among f k.val i then ⊥ else f i) (place f k) := by
  have hk : ¬ among f k.val (place f k) := by
    rintro ⟨j, hj, e⟩
    exact absurd (congrArg Fin.val (place_injective f e)) (by omega)
  have key : ∀ j, ¬ among f k.val j → f j ≤ f (place f k) ∧ (j < place f k → f j < f (place f k)) := by
    intro j hj
    obtain ⟨m, rfl⟩ := place_surjective f j
    have hm : k ≤ m := by
      by_contra h
      exact hj ⟨m, by simpa using h, rfl⟩
    rcases eq_or_lt_of_le hm with rfl | hlt
    · exact ⟨le_refl _, fun h => absurd h (lt_irrefl _)⟩
    · have h := place_order f k m hlt
      simp only [ahead, Bool.or_eq_false_iff, Bool.and_eq_false_iff, decide_eq_false_iff_not, not_lt] at h
      refine ⟨h.1, fun hl => lt_of_le_of_ne h.1 fun e => ?_⟩
      rcases h.2 with h2 | h2
      · exact h2 e
      · exact absurd hl (not_lt.mpr h2)
  refine ⟨fun j => ?_, fun j hj => ?_⟩
  · simp only [if_neg hk]
    by_cases h : among f k.val j
    · rw [if_pos h]; exact bot_le
    · rw [if_neg h]; exact (key j h).1
  · simp only [if_neg hk]
    by_cases h : among f k.val j
    · rw [if_pos h]; exact bot_lt_iff_ne_bot.mpr (hf _)
    · rw [if_neg h]; exact (key j h).2 hj

open Classical in
theorem left_eq (f : Fin 64 → EReal) (hf : ∀ i, f i ≠ ⊥) (k : ℕ) (hk : k ≤ 64) :
    left f k = (fun i => if among f k i then ⊥ else f i) ∧ ∀ i, held f k i ↔ among f k i := by
  induction k with
  | zero =>
    have h0 : ∀ i, ¬ among f 0 i := fun i ⟨j, hj, _⟩ => absurd hj (Nat.not_lt_zero _)
    refine ⟨?_, fun i => ⟨fun h => h.elim, fun h => (h0 i h).elim⟩⟩
    funext i
    rw [if_neg (h0 i)]; rfl
  | succ k ih =>
    obtain ⟨h1, h2⟩ := ih (by omega)
    have hF : ∀ i, IsFirst (left f k) i ↔ i = place f ⟨k, by omega⟩ := by
      intro i
      have hp := isFirst_place f hf ⟨k, by omega⟩
      rw [h1]
      exact ⟨fun h => h.unique hp, fun h => h ▸ hp⟩
    have ha := fun i => among_succ f ⟨k, by omega⟩ i
    refine ⟨?_, fun i => ?_⟩
    · funext i
      show (if IsFirst (left f k) i then ⊥ else left f k i) = _
      by_cases h : i = place f ⟨k, by omega⟩
      · rw [if_pos ((hF i).mpr h), if_pos ((ha i).mpr (Or.inr h))]
      · rw [if_neg (fun h' => h ((hF i).mp h')), h1]
        show (if among f k i then ⊥ else f i) = _
        by_cases h' : among f k i
        · rw [if_pos h', if_pos ((ha i).mpr (Or.inl h'))]
        · rw [if_neg h', if_neg (fun h'' => ((ha i).mp h'').elim h' h)]
    · show held f k i ∨ IsFirst (left f k) i ↔ _
      rw [h2, hF]
      exact (ha i).symm

/-- The lanes taken in `k` rounds are the first `k` places of the sort. -/
theorem held_iff (f : Fin 64 → EReal) (hf : ∀ i, f i ≠ ⊥) (k : ℕ) (hk : k ≤ 64) (i : Fin 64) :
    held f k i ↔ among f k i := (left_eq f hf k hk).2 i

/-! ## The weights of a row -/

/-- The sum of the eight greatest values. -/
def topSum (f : Fin 64 → EReal) : EReal := ∑ k : Fin 8, f (place f (k.castLE (by decide)))

open Classical in
/-- The weights: the eight greatest values over their sum, and zero elsewhere. -/
def weights (f : Fin 64 → EReal) (i : Fin 64) : EReal := if among f 8 i then Ideal.div (f i) (topSum f) else 0

open Classical in
/-- The weights as the rounds give them: the taken values over the sum of the row with zero at the others. -/
def roundWeights (f : Fin 64 → EReal) (i : Fin 64) : EReal :=
  Ideal.div (if held f 8 i then f i else 0) (∑ j, if held f 8 j then f j else 0)

open Classical in
theorem sum_among (f : Fin 64 → EReal) : (∑ j, if among f 8 j then f j else 0) = topSum f := by
  rw [← Finset.sum_filter]
  have : (Finset.univ.filter fun j => among f 8 j)
      = Finset.univ.image fun k : Fin 8 => place f (k.castLE (by decide)) := by
    ext j
    simp only [Finset.mem_filter, Finset.mem_univ, true_and, Finset.mem_image]
    constructor
    · rintro ⟨m, hm, rfl⟩
      exact ⟨⟨m.val, hm⟩, rfl⟩
    · rintro ⟨k, rfl⟩
      exact ⟨k.castLE (by decide), k.isLt, rfl⟩
  rw [this, Finset.sum_image]
  · rfl
  · intro a _ b _ h
    exact Fin.castLE_injective _ (place_injective f h)

/-- A row with no negative value and a positive one has a positive sum of the eight greatest. -/
theorem topSum_ne_zero (f : Fin 64 → EReal) (h0 : ∀ i, 0 ≤ f i) (hp : ∃ i, 0 < f i) : topSum f ≠ 0 := by
  obtain ⟨i, hi⟩ := hp
  obtain ⟨m, rfl⟩ := place_surjective f i
  have hb : f (place f m) ≤ f (place f 0) := by
    rcases eq_or_lt_of_le (Fin.zero_le m) with h | h
    · rw [← h]
    · have h := place_order f 0 m h
      simp only [ahead, Bool.or_eq_false_iff, decide_eq_false_iff_not, not_lt] at h
      exact h.1
  have hle : f (place f 0) ≤ topSum f :=
    Finset.single_le_sum (f := fun k : Fin 8 => f (place f (k.castLE (by decide)))) (fun _ _ => h0 _)
      (Finset.mem_univ (0 : Fin 8))
  exact (lt_of_lt_of_le hi (hb.trans hle)).ne'

theorem roundWeights_eq (f : Fin 64 → EReal) (h0 : ∀ i, 0 ≤ f i) (hp : ∃ i, 0 < f i) (i : Fin 64) :
    roundWeights f i = weights f i := by
  classical
  have hf : ∀ i, f i ≠ ⊥ := fun i e => absurd (h0 i) (by rw [e]; decide)
  have hh : ∀ i, held f 8 i ↔ among f 8 i := fun i => held_iff f hf 8 (by decide) i
  unfold roundWeights weights
  simp only [hh]
  rw [sum_among]
  by_cases h : among f 8 i
  · rw [if_pos h, if_pos h]
  · rw [if_neg h, if_neg h]
    exact Ideal.zero_div (topSum_ne_zero f h0 hp)

/-! ## A row of minus infinities -/

theorem bot_div_bot : Ideal.div (⊥ : EReal) ⊥ = 0 := by
  unfold Ideal.div
  rw [if_neg (by decide)]; simp

theorem zero_div_bot : Ideal.div (0 : EReal) ⊥ = 0 := Ideal.zero_div (by decide)

theorem left_bot (f : Fin 64 → EReal) (hf : ∀ i, f i = ⊥) (k : ℕ) (i : Fin 64) : left f k i = ⊥ := by
  classical
  induction k with
  | zero => exact hf i
  | succ k ih =>
    show (if IsFirst (left f k) i then ⊥ else left f k i) = ⊥
    rw [ih]; simp

theorem held_bot (f : Fin 64 → EReal) (hf : ∀ i, f i = ⊥) : held f 8 0 :=
  Or.inr ⟨fun j => by rw [left_bot f hf, left_bot f hf], fun j hj => absurd hj (Fin.not_lt_zero j)⟩

theorem sum_bot {ι : Type} [Fintype ι] (g : ι → EReal) (i : ι) (h : g i = ⊥) : ∑ j, g j = ⊥ := by
  classical
  rw [← Finset.add_sum_erase _ _ (Finset.mem_univ i), h, EReal.bot_add]

theorem roundWeights_bot (f : Fin 64 → EReal) (hf : ∀ i, f i = ⊥) (i : Fin 64) : roundWeights f i = 0 := by
  classical
  unfold roundWeights
  rw [sum_bot _ 0 (by rw [if_pos (held_bot f hf), hf])]
  by_cases h : held f 8 i
  · rw [if_pos h, hf, bot_div_bot]
  · rw [if_neg h, zero_div_bot]

theorem weights_bot (f : Fin 64 → EReal) (hf : ∀ i, f i = ⊥) (i : Fin 64) : weights f i = 0 := by
  classical
  have : topSum f = ⊥ := sum_bot _ 0 (hf _)
  unfold weights
  rw [this, hf, bot_div_bot]; simp

/-! ## The softmax of a row -/

/-- The greatest value of a row. -/
def rowMax (l : Fin 64 → EReal) : EReal := Finset.univ.fold max ⊥ l

/-- The row shifted by its greatest value, exponentiated. -/
def rowExp (l : Fin 64 → EReal) (i : Fin 64) : EReal := Ideal.exp (l i - rowMax l)

/-- The softmax of a row. -/
def probs (l : Fin 64 → EReal) (i : Fin 64) : EReal := Ideal.div (rowExp l i) (∑ j, rowExp l j)

theorem exp_nonneg (x : EReal) : 0 ≤ Ideal.exp x := by
  induction x with
  | bot => exact le_refl _
  | top => exact le_top
  | coe r => exact EReal.coe_nonneg.mpr (Real.exp_pos r).le

theorem exp_le_one (x : EReal) (h : x ≤ 0) : Ideal.exp x ≤ 1 := by
  induction x with
  | bot => exact zero_le_one
  | top => exact absurd h (by decide)
  | coe r => exact EReal.coe_le_coe_iff.mpr (Real.exp_le_one_iff.mpr (EReal.coe_nonpos.mp h))

theorem le_rowMax (l : Fin 64 → EReal) (i : Fin 64) : l i ≤ rowMax l :=
  Finset.le_fold_max (b := ⊥) (f := l) (l i) |>.mpr (Or.inr ⟨i, Finset.mem_univ i, le_refl _⟩)

theorem rowExp_le_one (l : Fin 64 → EReal) (i : Fin 64) : rowExp l i ≤ 1 := by
  refine exp_le_one _ ?_
  have h := le_rowMax l i
  generalize rowMax l = M at h ⊢
  generalize l i = x at h ⊢
  induction M with
  | bot => rw [le_bot_iff.mp h]; decide
  | top => rw [sub_eq_add_neg, EReal.neg_top, EReal.add_bot]; exact bot_le
  | coe r =>
    induction x with
    | bot => rw [sub_eq_add_neg, EReal.bot_add]; exact bot_le
    | top => exact absurd h (by simp)
    | coe q =>
      rw [← EReal.coe_sub]
      exact EReal.coe_nonpos.mpr (sub_nonpos.mpr (EReal.coe_le_coe_iff.mp h))

theorem sum_ne_top (g : Fin 64 → EReal) (h : ∀ i, g i ≤ 1) : ∑ i, g i ≠ ⊤ := by
  refine (lt_of_le_of_lt (Finset.sum_le_sum fun i _ => h i) ?_).ne
  simp only [Finset.sum_const, Finset.card_univ, Fintype.card_fin]
  rw [← EReal.coe_one, ← EReal.coe_nsmul]
  exact EReal.coe_lt_top _

/-- A softmax row is either all minus infinity (every exponential is zero), or has no negative value and a positive
    one. -/
theorem probs_cases (l : Fin 64 → EReal) :
    (∀ i, probs l i = ⊥) ∨ ((∀ i, 0 ≤ probs l i) ∧ ∃ i, 0 < probs l i) := by
  have h0 : ∀ i, 0 ≤ rowExp l i := fun i => exp_nonneg _
  by_cases hs : ∑ j, rowExp l j = 0
  · refine Or.inl fun i => ?_
    have : rowExp l i = 0 := (Finset.sum_eq_zero_iff_of_nonneg fun j _ => h0 j).mp hs i (Finset.mem_univ i)
    unfold probs Ideal.div
    rw [if_pos hs, this, if_neg (lt_irrefl _)]
  · have hpos : 0 < ∑ j, rowExp l j := lt_of_le_of_ne (Finset.sum_nonneg fun j _ => h0 j) (Ne.symm hs)
    have hinv : 0 < (∑ j, rowExp l j)⁻¹ := EReal.inv_pos_of_pos_ne_top hpos (sum_ne_top _ (rowExp_le_one l))
    have he : ∀ i, probs l i = rowExp l i * (∑ j, rowExp l j)⁻¹ := fun i => by unfold probs Ideal.div; rw [if_neg hs]
    refine Or.inr ⟨fun i => ?_, ?_⟩
    · rw [he]; exact mul_nonneg (h0 i) hinv.le
    · by_contra hne
      refine hs (Finset.sum_eq_zero fun i _ => ?_)
      by_contra h
      exact hne ⟨i, by rw [he]; exact EReal.mul_pos (lt_of_le_of_ne (h0 i) (Ne.symm h)) hinv⟩

/-- On a softmax row the rounds and the sort give the same weights. -/
theorem roundWeights_probs (l : Fin 64 → EReal) (i : Fin 64) : roundWeights (probs l) i = weights (probs l) i := by
  rcases probs_cases l with h | ⟨h0, hp⟩
  · rw [roundWeights_bot _ h, weights_bot _ h]
  · exact roundWeights_eq _ h0 hp i

end Cert.Row
-- ==== Proof.RouterValue.lean ====
/-
  The router call's combine weights, entry by entry, with reals for floats.

  The body's operations are grouped into eight equal rounds over whole arrays (`combine_eq`). Each round, read on one row,
  is one round of the module `Order` (`hit_at`). So a row of the result is the weights of the softmax of that row's router
  scores (`combine_at`).
-/
module

public import proofs.«01_k».proof.Proof.Router
public import proofs.«01_k».proof.Proof.Order
public import Idealize.ShloMosaic.Lib.Pointwise

@[expose] public section

set_option maxRecDepth 16384

noncomputable section

namespace Cert.KernelIdeal.Router

open Cert.KernelIdeal Cert.KernelIdeal.Gen
open Idealize.ShloMosaic Idealize.ShloMosaic.TcCoe Idealize.SL.Sem

/-! ## The rounds over whole arrays -/

/-- For each row, in every lane, the number of the first lane holding the row's greatest value. -/
def best (cur : FVec Ideal S2048x64 .f32) : IVec S2048x64 32 :=
  broadcastTo S2048x64 (shapeCast S2048x1
    (multiReductionI .minsi [1] S2048
      (select
        (cmpf .oeq cur (broadcastTo S2048x64 (shapeCast S2048x1
          (multiReduction .maximumf [1] S2048 cur 0xFF800000#32 reduces_S2048x64_S2048 (.inl rfl) rfl)
          shapeCasts_S2048_S2048x1) broadcasts_S2048x1_S2048x64))
        lanes (broadcast S2048x64 64#32))
      2147483647#32 reduces_S2048x64_S2048 rfl)
    shapeCasts_S2048_S2048x1) broadcasts_S2048x1_S2048x64

/-- One where the lane is the one taken this round. -/
def hit (cur : FVec Ideal S2048x64 .f32) : IVec S2048x64 1 := cmpi .eq lanes (best cur)

/-- The array after `k` rounds. -/
def curAt (p : FVec Ideal S2048x64 .f32) : ℕ → FVec Ideal S2048x64 .f32
  | 0 => p
  | k + 1 => select (hit (curAt p k)) (broadcast S2048x64 (Scalar.ofBits .f32 0xFF800000#32)) (curAt p k)

/-- One where the lane was taken in one of the first `k` rounds. -/
def maskAt (p : FVec Ideal S2048x64 .f32) : ℕ → IVec S2048x64 1
  | 0 => broadcast S2048x64 0#1
  | k + 1 => ori (maskAt p k) (hit (curAt p k))

/-- The taken entries, zero elsewhere. -/
def taken (p : FVec Ideal S2048x64 .f32) : FVec Ideal S2048x64 .f32 :=
  select (maskAt p 8) p (broadcast S2048x64 (Scalar.ofBits .f32 0x00000000#32))

/-- The taken entries over their row sums. -/
def quot (v : FVec Ideal S2048x64 .f32) : FVec Ideal S2048x64 .f32 :=
  divf v (broadcastTo S2048x64 (shapeCast S2048x1
    (multiReduction .add [1] S2048 v 0x00000000#32 reduces_S2048x64_S2048 (.inl rfl) rfl)
    shapeCasts_S2048_S2048x1) broadcasts_S2048x1_S2048x64)

theorem combine_eq (x : FVec Ideal S2048x768 .f32) (wg : FVec Ideal S64x768 .f32) :
    combine (F := Ideal) x wg = quot (taken (k0_pay2 (F := Ideal) x wg)) := by
  rfl

/-! ## One round on one row -/

theorem bot_bits : Ideal.ofBits .f32 0xFF800000#32 = (⊥ : EReal) := by simp [Ideal.ofBits, Ideal.ieee]

theorem minsi_toInt (x y : BitVec 32) : (IntOp.minsi x y).toInt = min x.toInt y.toInt := by
  unfold IntOp.minsi
  by_cases h : x.slt y
  · rw [if_pos h]
    rw [BitVec.slt_iff_toInt_lt] at h
    exact (min_eq_left h.le).symm
  · rw [if_neg h]
    rw [BitVec.slt_iff_toInt_lt, not_lt] at h
    exact (min_eq_right h).symm

theorem lane_toInt (i : Fin 64) : (BitVec.ofNat 32 i.val).toInt = (i.val : ℤ) := by
  revert i; decide

/-- The smallest lane number among those holding the greatest value is lane `i` exactly when `i` is the first one. -/
theorem first_lane (g : Fin 64 → EReal) (i : Fin 64) :
    IntOp.cmpi .eq (BitVec.ofNat 32 i.val)
      (Finset.univ.fold IntOp.minsi 2147483647#32 fun j : Fin 64 =>
        if g j = Finset.univ.fold max ⊥ g then BitVec.ofNat 32 j.val else 64#32) = 1#1 ↔ Cert.Row.IsFirst g i := by
  have hmax : ∀ j, g j ≤ Finset.univ.fold max ⊥ g := Cert.Row.le_rowMax g
  generalize hM : Finset.univ.fold max ⊥ g = M at hmax ⊢
  have hex : ∃ j, g j = M := by
    by_contra hne
    have hb : (0 : Fin 64) ∈ Finset.univ := Finset.mem_univ _
    have hlt : ∀ j, g j < M := fun j => lt_of_le_of_ne (hmax j) fun e => hne ⟨j, e⟩
    have : Finset.univ.fold max ⊥ g < M :=
      (Finset.fold_max_lt M).mpr ⟨lt_of_le_of_lt bot_le (hlt 0), fun j _ => hlt j⟩
    exact absurd hM this.ne
  have hT : (Finset.univ.fold IntOp.minsi 2147483647#32 fun j : Fin 64 =>
        if g j = M then BitVec.ofNat 32 j.val else 64#32).toInt
      = Finset.univ.fold min (2147483647 : ℤ) fun j : Fin 64 => if g j = M then (j.val : ℤ) else 64 := by
    rw [← Finset.fold_hom (op := IntOp.minsi) (op' := min) (m := BitVec.toInt) (fun x y => minsi_toInt x y)]
    refine Finset.fold_congr fun j _ => ?_
    by_cases h : g j = M
    · rw [if_pos h, if_pos h, lane_toInt]
    · rw [if_neg h, if_neg h]; rfl
  have hc : ∀ v : BitVec 32, IntOp.cmpi .eq (BitVec.ofNat 32 i.val) v = 1#1 ↔ v.toInt = (i.val : ℤ) := by
    intro v
    unfold IntOp.cmpi
    rw [← lane_toInt, BitVec.toInt_inj]
    by_cases h : v = BitVec.ofNat 32 i.val
    · simp [h]
    · have : ¬ BitVec.ofNat 32 i.val = v := fun e => h e.symm
      have hb : (BitVec.ofNat 32 i.val == v) = false := beq_eq_false_iff_ne.mpr this
      simp only [hb, h, iff_false]
      decide
  rw [hc, hT]
  have hiff : Cert.Row.IsFirst g i ↔ g i = M ∧ ∀ j, j < i → g j ≠ M := by
    constructor
    · rintro ⟨h1, h2⟩
      obtain ⟨m, hm⟩ := hex
      have e : g i = M := le_antisymm (hmax i) (hm ▸ h1 m)
      exact ⟨e, fun j hj => e ▸ (h2 j hj).ne⟩
    · rintro ⟨e, h2⟩
      exact ⟨fun j => e ▸ hmax j, fun j hj => e ▸ lt_of_le_of_ne (hmax j) (h2 j hj)⟩
  rw [hiff]
  have hle : ∀ j : Fin 64, Finset.univ.fold min (2147483647 : ℤ) (fun j : Fin 64 => if g j = M then (j.val : ℤ) else 64)
      ≤ if g j = M then (j.val : ℤ) else 64 := fun j => (Finset.fold_min_le _).mpr (Or.inr ⟨j, Finset.mem_univ j, le_refl _⟩)
  constructor
  · intro h
    rw [h] at hle
    have hge := (Finset.le_fold_min (b := (2147483647 : ℤ)) (s := Finset.univ)
      (f := fun j : Fin 64 => if g j = M then (j.val : ℤ) else 64) (i.val : ℤ)).mp h.ge
    have hlt : ((Finset.univ.fold min (2147483647 : ℤ) fun j : Fin 64 => if g j = M then (j.val : ℤ) else 64)) < i.val + 1 := by
      rw [h]; omega
    rw [Finset.fold_min_lt] at hlt
    have hpre : ∀ j, j < i → g j ≠ M := by
      intro j hj e
      have := hle j
      rw [if_pos e] at this
      have : j.val < i.val := hj
      omega
    refine ⟨?_, hpre⟩
    rcases hlt with hlt | ⟨j, _, hj⟩
    · have := i.isLt; omega
    · by_cases e : g j = M
      · rw [if_pos e] at hj
        have h1 : ¬ j < i := fun h' => hpre j h' e
        have h2 : j = i := Fin.ext (by have : ¬ j.val < i.val := h1; omega)
        exact h2 ▸ e
      · rw [if_neg e] at hj
        have := i.isLt; omega
  · rintro ⟨e, h2⟩
    refine le_antisymm ?_ ?_
    · have := hle i
      rwa [if_pos e] at this
    · refine (Finset.le_fold_min _).mpr ⟨by have := i.isLt; omega, fun j _ => ?_⟩
      by_cases e' : g j = M
      · rw [if_pos e']
        have : ¬ j < i := fun h' => h2 j h' e'
        have : ¬ j.val < i.val := this
        omega
      · rw [if_neg e']
        have := i.isLt; omega

theorem hit_at (cur : FVec Ideal S2048x64 .f32) (t : Fin 2048) (i : Fin 64) :
    hit cur (ix2 t i) = 1#1 ↔ Cert.Row.IsFirst (fun j => cur (ix2 t j)) i := by
  rw [← first_lane]
  pointwise [hit, best, lanes, bot_bits]

theorem curAt_at (p : FVec Ideal S2048x64 .f32) (t : Fin 2048) (k : ℕ) :
    (fun i => curAt p k (ix2 t i)) = Cert.Row.left (fun i => p (ix2 t i)) k := by
  classical
  induction k with
  | zero => rfl
  | succ k ih =>
    funext i
    have h := hit_at (curAt p k) t i
    rw [ih] at h
    have hl : curAt p (k + 1) (ix2 t i)
        = if hit (curAt p k) (ix2 t i) = 1#1 then ⊥ else curAt p k (ix2 t i) := by
      rw [← bot_bits]; rfl
    rw [hl, show curAt p k (ix2 t i) = _ from congrFun ih i]
    show _ = if Cert.Row.IsFirst (Cert.Row.left (fun i => p (ix2 t i)) k) i then ⊥ else _
    by_cases h' : hit (curAt p k) (ix2 t i) = 1#1
    · rw [if_pos h', if_pos (h.mp h')]
    · rw [if_neg h', if_neg fun e => h' (h.mpr e)]

theorem ori_one (a b : BitVec 1) : IntOp.ori a b = 1#1 ↔ a = 1#1 ∨ b = 1#1 := by revert a b; decide

theorem maskAt_at (p : FVec Ideal S2048x64 .f32) (t : Fin 2048) (i : Fin 64) (k : ℕ) :
    maskAt p k (ix2 t i) = 1#1 ↔ Cert.Row.held (fun i => p (ix2 t i)) k i := by
  induction k with
  | zero => exact ⟨fun h => absurd (show (0#1 : BitVec 1) = 1#1 from h) (by decide), fun h => h.elim⟩
  | succ k ih =>
    show IntOp.ori (maskAt p k (ix2 t i)) (hit (curAt p k) (ix2 t i)) = 1#1 ↔ _
    rw [ori_one, ih, hit_at, curAt_at]
    rfl

theorem taken_at (p : FVec Ideal S2048x64 .f32) (t : Fin 2048) (i : Fin 64) [Decidable (Cert.Row.held (fun i => p (ix2 t i)) 8 i)] :
    taken p (ix2 t i) = if Cert.Row.held (fun i => p (ix2 t i)) 8 i then p (ix2 t i) else 0 := by
  have h := maskAt_at p t i 8
  have hl : taken p (ix2 t i) = if maskAt p 8 (ix2 t i) = 1#1 then p (ix2 t i) else 0 := by
    pointwise [taken]
    rfl
  rw [hl]
  by_cases h' : maskAt p 8 (ix2 t i) = 1#1
  · rw [if_pos h', if_pos (h.mp h')]
  · rw [if_neg h', if_neg fun e => h' (h.mpr e)]

theorem quot_at (v : FVec Ideal S2048x64 .f32) (t : Fin 2048) (i : Fin 64) :
    quot v (ix2 t i) = Ideal.div (v (ix2 t i)) (∑ j : Fin 64, v (ix2 t j)) := by
  pointwise [quot]

/-- The router scores of token `t`. -/
def scores (x : FVec Ideal S2048x768 .f32) (wg : FVec Ideal S64x768 .f32) (t : Fin 2048) (i : Fin 64) : EReal :=
  ∑ k : Fin 768, x (ix2 t k) * wg (ix2 i k)

theorem pay2_at (x : FVec Ideal S2048x768 .f32) (wg : FVec Ideal S64x768 .f32) (t : Fin 2048) (i : Fin 64) :
    k0_pay2 (F := Ideal) x wg (ix2 t i) = Cert.Row.probs (scores x wg t) i := by
  pointwise [k0_pay2, bot_bits]
  rfl

/-- The combine weights of token `t`: the weights of the softmax of its router scores. -/
theorem combine_at (x : FVec Ideal S2048x768 .f32) (wg : FVec Ideal S64x768 .f32) (t : Fin 2048) (i : Fin 64) :
    combine (F := Ideal) x wg (ix2 t i) = Cert.Row.weights (Cert.Row.probs (scores x wg t)) i := by
  classical
  rw [combine_eq, quot_at, ← Cert.Row.roundWeights_probs]
  have hp : (fun i => k0_pay2 (F := Ideal) x wg (ix2 t i)) = Cert.Row.probs (scores x wg t) :=
    funext fun i => pay2_at x wg t i
  generalize k0_pay2 (F := Ideal) x wg = p at hp ⊢
  rw [← hp]
  unfold Cert.Row.roundWeights
  rw [taken_at]
  refine congrArg₂ Ideal.div ?_ (Finset.sum_congr rfl fun j _ => ?_)
  · congr
  · rw [taken_at]

end Cert.KernelIdeal.Router
-- ==== Proof.ExpertValue.lean ====
/-
  The expert call's result, entry by entry, with reals for floats.

  The contribution of a grid point is its expert's gated output times the token's combine weight for that expert
  (`contrib_at`): the masked lane sum in the body leaves just that one weight. The blocks of the weight arrays at a point
  are that expert's matrices (`iblk1_at` and its neighbours). The result is the sum over the experts (`final_at`).
-/
module

public import proofs.«01_k».proof.Proof.Expert
public import Idealize.ShloMosaic.Lib.Pointwise

@[expose] public section

set_option maxRecDepth 16384

noncomputable section

namespace Cert.KernelIdeal.Expert

open Cert.KernelIdeal Cert.KernelIdeal.Gen
open Idealize.ShloMosaic Idealize.ShloMosaic.TcCoe Idealize.SL.Sem
open Idealize.ShloMosaic.Pipeline (Dat Cfg Window)

theorem eq_word (a b : Fin 64) :
    IntOp.cmpi .eq (BitVec.ofNat 32 a.val) (BitVec.ofNat 32 b.val) = if a = b then 1#1 else 0#1 := by
  revert a b; decide +kernel

/-- One hidden projection of one token under one expert. -/
def pre (x0 : FVec Ideal S2048x768 .bf16) (x1 : FVec Ideal S1x768x384 .bf16) (t : Fin 2048) (f : Fin 384) : EReal :=
  ∑ k : Fin 768, x0 (ix2 t k) * x1 (ix3 0 k f)

theorem contrib_at (i : grid1.Coords) (x0 : FVec Ideal S2048x768 .bf16) (x1 x2 : FVec Ideal S1x768x384 .bf16)
    (x3 : FVec Ideal S1x384x768 .bf16) (x4 : FVec Ideal S2048x64 .f32) (e : Fin 64) (hi : (i 0).val = e.val)
    (t : Fin 2048) (d : Fin 768) :
    contrib (F := Ideal) i x0 x1 x2 x3 x4 (ix2 t d)
      = x4 (ix2 t e) * ∑ f : Fin 384, (pre x0 x1 t f * Ideal.logistic (pre x0 x1 t f) * pre x0 x2 t f) * x3 (ix3 0 f d) := by
  pointwise [contrib, k1_pay2]
  rw [hi]
  simp only [eq_word]
  refine congrArg₂ (· * ·) ?_ rfl
  refine (Finset.sum_eq_single e (fun b _ hb => ?_) fun h => absurd (Finset.mem_univ e) h).trans ?_
  · rw [if_neg hb]; rfl
  · rw [if_pos rfl]; rfl

theorem pay1_at (a b : FVec Ideal S2048x768 .f32) (t : Fin 2048) (d : Fin 768) :
    k1_pay1 (F := Ideal) a b (ix2 t d) = b (ix2 t d) + a (ix2 t d) := by
  pointwise [k1_pay1]

variable (V : Dev nD → Valuation τ sig (Elt Ideal))

theorem coord_val : ∀ t : Fin cfg1.N, (grid1.coords t 0).val = t.val :=
  (by decide +kernel : ∀ t : Fin grid1.N, _)

theorem index0 : ∀ t : Fin cfg1.N, win1_0.index t (0 : Fin 2) = 0 ∧ win1_0.index t (1 : Fin 2) = 0 :=
  (by decide +kernel : ∀ t : Fin grid1.N, _)
theorem index1 : ∀ t : Fin cfg1.N, win1_1.index t (0 : Fin 3) = t.val ∧ win1_1.index t (1 : Fin 3) = 0 ∧ win1_1.index t (2 : Fin 3) = 0 :=
  (by decide +kernel : ∀ t : Fin grid1.N, _)
theorem index2 : ∀ t : Fin cfg1.N, win1_2.index t (0 : Fin 3) = t.val ∧ win1_2.index t (1 : Fin 3) = 0 ∧ win1_2.index t (2 : Fin 3) = 0 :=
  (by decide +kernel : ∀ t : Fin grid1.N, _)
theorem index3 : ∀ t : Fin cfg1.N, win1_3.index t (0 : Fin 3) = t.val ∧ win1_3.index t (1 : Fin 3) = 0 ∧ win1_3.index t (2 : Fin 3) = 0 :=
  (by decide +kernel : ∀ t : Fin grid1.N, _)
theorem index4 : ∀ t : Fin cfg1.N, win1_4.index t (0 : Fin 2) = 0 ∧ win1_4.index t (1 : Fin 2) = 0 :=
  (by decide +kernel : ∀ t : Fin grid1.N, _)

theorem iblk0_at (c : Dev nD) (p : Fin cfg1.N) (t : Fin 2048) (k : Fin 768) :
    (show S2048x768.Idx → Elt Ideal .bf16 from iblk V c 0 p) (ix2 t k)
      = (show S2048x768.Idx → Elt Ideal .bf16 from V c main_call0_v2) (ix2 t k) := by
  obtain ⟨e0, e1⟩ := index0 p
  refine congrArg (V c main_call0_v2) ?_
  funext a; apply Fin.ext
  match a with
  | ⟨0, _⟩ => show win1_0.index p (0 : Fin 2) * 2048 + 1 * t.val = t.val; omega
  | ⟨1, _⟩ => show win1_0.index p (1 : Fin 2) * 768 + 1 * k.val = k.val; omega

theorem iblk4_at (c : Dev nD) (p : Fin cfg1.N) (t : Fin 2048) (k : Fin 64) :
    (show S2048x64.Idx → Elt Ideal .f32 from iblk V c 4 p) (ix2 t k)
      = (show S2048x64.Idx → Elt Ideal .f32 from V c main_call0_v1) (ix2 t k) := by
  obtain ⟨e0, e1⟩ := index4 p
  refine congrArg (V c main_call0_v1) ?_
  funext a; apply Fin.ext
  match a with
  | ⟨0, _⟩ => show win1_4.index p (0 : Fin 2) * 2048 + 1 * t.val = t.val; omega
  | ⟨1, _⟩ => show win1_4.index p (1 : Fin 2) * 64 + 1 * k.val = k.val; omega

theorem iblk1_at (c : Dev nD) (p : Fin cfg1.N) (e : Fin 64) (hp : p.val = e.val) (k : Fin 768) (f : Fin 384) :
    (show S1x768x384.Idx → Elt Ideal .bf16 from iblk V c 1 p) (ix3 0 k f)
      = (show S64x768x384.Idx → Elt Ideal .bf16 from V c main_call0_v3) (ix3 e k f) := by
  obtain ⟨e0, e1, e2⟩ := index1 p
  refine congrArg (V c main_call0_v3) ?_
  funext a; apply Fin.ext
  match a with
  | ⟨0, _⟩ => show win1_1.index p (0 : Fin 3) * 1 + 1 * (0 : ℕ) = e.val; omega
  | ⟨1, _⟩ => show win1_1.index p (1 : Fin 3) * 768 + 1 * k.val = k.val; omega
  | ⟨2, _⟩ => show win1_1.index p (2 : Fin 3) * 384 + 1 * f.val = f.val; omega

theorem iblk2_at (c : Dev nD) (p : Fin cfg1.N) (e : Fin 64) (hp : p.val = e.val) (k : Fin 768) (f : Fin 384) :
    (show S1x768x384.Idx → Elt Ideal .bf16 from iblk V c 2 p) (ix3 0 k f)
      = (show S64x768x384.Idx → Elt Ideal .bf16 from V c main_call0_v4) (ix3 e k f) := by
  obtain ⟨e0, e1, e2⟩ := index2 p
  refine congrArg (V c main_call0_v4) ?_
  funext a; apply Fin.ext
  match a with
  | ⟨0, _⟩ => show win1_2.index p (0 : Fin 3) * 1 + 1 * (0 : ℕ) = e.val; omega
  | ⟨1, _⟩ => show win1_2.index p (1 : Fin 3) * 768 + 1 * k.val = k.val; omega
  | ⟨2, _⟩ => show win1_2.index p (2 : Fin 3) * 384 + 1 * f.val = f.val; omega

theorem iblk3_at (c : Dev nD) (p : Fin cfg1.N) (e : Fin 64) (hp : p.val = e.val) (f : Fin 384) (d : Fin 768) :
    (show S1x384x768.Idx → Elt Ideal .bf16 from iblk V c 3 p) (ix3 0 f d)
      = (show S64x384x768.Idx → Elt Ideal .bf16 from V c main_call0_v5) (ix3 e f d) := by
  obtain ⟨e0, e1, e2⟩ := index3 p
  refine congrArg (V c main_call0_v5) ?_
  funext a; apply Fin.ext
  match a with
  | ⟨0, _⟩ => show win1_3.index p (0 : Fin 3) * 1 + 1 * (0 : ℕ) = e.val; omega
  | ⟨1, _⟩ => show win1_3.index p (1 : Fin 3) * 384 + 1 * f.val = f.val; omega
  | ⟨2, _⟩ => show win1_3.index p (2 : Fin 3) * 768 + 1 * d.val = d.val; omega

/-- One hidden projection of token `t` under expert `e`, from whole arrays. -/
def hid (x : FVec Ideal S2048x768 .bf16) (w : FVec Ideal S64x768x384 .bf16) (e : Fin 64) (t : Fin 2048) (f : Fin 384) : EReal :=
  ∑ k : Fin 768, x (ix2 t k) * w (ix3 e k f)

/-- The weighted output of expert `e`, at token `t` and feature `d`. -/
def term (x : FVec Ideal S2048x768 .bf16) (w1 w3 : FVec Ideal S64x768x384 .bf16) (w2 : FVec Ideal S64x384x768 .bf16)
    (cw : FVec Ideal S2048x64 .f32) (t : Fin 2048) (d : Fin 768) (e : Fin 64) : EReal :=
  cw (ix2 t e) * ∑ f : Fin 384, (hid x w1 e t f * Ideal.logistic (hid x w1 e t f) * hid x w3 e t f) * w2 (ix3 e f d)

theorem contribAt_at (c : Dev nD) (p : Fin cfg1.N) (e : Fin 64) (hp : p.val = e.val) (t : Fin 2048) (d : Fin 768) :
    contribAt V c p (ix2 t d)
      = term (V c main_call0_v2) (V c main_call0_v3) (V c main_call0_v4) (V c main_call0_v5) (V c main_call0_v1) t d e := by
  unfold contribAt
  refine (contrib_at _ _ _ _ _ _ e ((coord_val p).trans hp) t d).trans ?_
  have h1 : ∀ f, pre (iblk V c 0 p) (iblk V c 1 p) t f = hid (V c main_call0_v2) (V c main_call0_v3) e t f := fun f =>
    Finset.sum_congr rfl fun k _ => Ideal.mul_congr (iblk0_at V c p t k) (iblk1_at V c p e hp k f)
  have h2 : ∀ f, pre (iblk V c 0 p) (iblk V c 2 p) t f = hid (V c main_call0_v2) (V c main_call0_v4) e t f := fun f =>
    Finset.sum_congr rfl fun k _ => Ideal.mul_congr (iblk0_at V c p t k) (iblk2_at V c p e hp k f)
  refine Ideal.mul_congr (iblk4_at V c p t e) (Finset.sum_congr rfl fun f _ => ?_)
  rw [h1, h2]
  exact Ideal.mul_congr rfl (iblk3_at V c p e hp f d)

theorem outsAt_at (c : Dev nD) (t : Fin 2048) (d : Fin 768) (n : ℕ) (hn : n < cfg1.N) (h64 : n < 64) :
    outsAt V c n hn (ix2 t d)
      = ∑ e : Fin (n + 1), term (V c main_call0_v2) (V c main_call0_v3) (V c main_call0_v4) (V c main_call0_v5)
          (V c main_call0_v1) t d ⟨e.val, lt_of_lt_of_le e.isLt h64⟩ := by
  induction n with
  | zero =>
    rw [Fin.sum_univ_one]
    exact contribAt_at V c ⟨0, hn⟩ ⟨0, by decide⟩ rfl t d
  | succ n ih =>
    rw [Fin.sum_univ_castSucc]
    refine (pay1_at _ _ t d).trans ?_
    refine Ideal.add_congr (ih (Nat.lt_of_succ_lt hn) (by omega)) ?_
    exact contribAt_at V c ⟨n + 1, hn⟩ ⟨n + 1, h64⟩ rfl t d

/-- The call's result: the sum of the experts' weighted outputs. -/
theorem final_at (c : Dev nD) (t : Fin 2048) (d : Fin 768) :
    (show S2048x768.Idx → Elt Ideal .f32 from final V c) (ix2 t d)
      = ∑ e : Fin 64, term (V c main_call0_v2) (V c main_call0_v3) (V c main_call0_v4) (V c main_call0_v5)
          (V c main_call0_v1) t d e :=
  (congrFun (final_eq V c) (ix2 t d)).trans (outsAt_at V c t d 63 last.isLt (by decide))

end Cert.KernelIdeal.Expert
-- ==== Proof.KernelValue.lean ====
/-
  The kernel program's result, entry by entry, with reals for floats, from the argument arrays.

  The host operations around the two calls are read off: the token rows are the first argument reshaped, the expert call
  reads the arguments converted to a narrower format (which changes no real), and the program returns the expert call's
  result reshaped.
-/
module

public import proofs.«01_k».proof.Proof.Run
public import proofs.«01_k».proof.Proof.RouterValue
public import proofs.«01_k».proof.Proof.ExpertValue

@[expose] public section

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The token rows. -/
def rows (c : Dev nD) : FVec Ideal S2048x768 .f32 :=
  shapeCast S2048x768 (show FVec Ideal S1x2048x768 .f32 from m ((c.tc : Thread nD τ).loc main_arg0)) shapeCasts_S1x2048x768_S2048x768

theorem V1_v0 (c : Dev nD) : V1 m c main_call0_v0 = rows m c := by
  show StableHlo.after hostOps0 (V0 m c) main_call0_v0 = _
  after_results_simp
  rfl

theorem V2_v0 (c : Dev nD) : V2 m (outs m) c main_call0_v0 = rows m c :=
  (Router_ne m c main_call0_v0 (by decide)).trans (V1_v0 m c)

theorem V2_arg (c : Dev nD) (b : Ref sig .tc) (h : b ≠ main_call0_v1) (h' : b ∉ (hostOps0_W : List (Ref sig .tc))) :
    V2 m (outs m) c b = m ((c.tc : Thread nD τ).loc b) :=
  (Router_ne m c b h).trans (V1_of m c b h')

theorem W3_v1 (c : Dev nD) : W3 m c main_call0_v1
    = Router.combine (F := Ideal) (rows m c) (m ((c.tc : Thread nD τ).loc main_arg1)) := by
  refine (V3_of m (outs m) c main_call0_v1 (by decide)).trans ((Router_out m c).trans ((Router.final_eq (W1 m) c).trans ?_))
  show Router.combine (F := Ideal) (V1 m c main_call0_v0) (V1 m c main_arg1) = _
  rw [V1_v0, V1_of m c main_arg1 (by decide)]

theorem W3_v2 (c : Dev nD) : W3 m c main_call0_v2 = rows m c := by
  rw [← V2_v0]
  show StableHlo.after hostOps1 (V2 m (outs m) c) main_call0_v2 = _
  after_results_simp
  rfl

theorem W3_v3 (c : Dev nD) : W3 m c main_call0_v3 = m ((c.tc : Thread nD τ).loc main_arg2) := by
  rw [← V2_arg m c main_arg2 (by decide) (by decide)]
  show StableHlo.after hostOps1 (V2 m (outs m) c) main_call0_v3 = _
  after_results_simp
  rfl

theorem W3_v4 (c : Dev nD) : W3 m c main_call0_v4 = m ((c.tc : Thread nD τ).loc main_arg3) := by
  rw [← V2_arg m c main_arg3 (by decide) (by decide)]
  show StableHlo.after hostOps1 (V2 m (outs m) c) main_call0_v4 = _
  after_results_simp
  rfl

theorem W3_v5 (c : Dev nD) : W3 m c main_call0_v5 = m ((c.tc : Thread nD τ).loc main_arg4) := by
  rw [← V2_arg m c main_arg4 (by decide) (by decide)]
  show StableHlo.after hostOps1 (V2 m (outs m) c) main_call0_v5 = _
  after_results_simp
  rfl

theorem V5_v0 (c : Dev nD) : V5 m (outs m) c main_v0
    = shapeCast S1x2048x768 (show FVec Ideal S2048x768 .f32 from Expert.final (W3 m) c) shapeCasts_S2048x768_S1x2048x768 := by
  rw [← Expert_out]
  show StableHlo.after hostOps2 (V4 m (outs m) c) main_v0 = _
  after_results_simp
  rfl

/-- The expert call's result: the sum over the experts of the combine weight times the gated output. -/
theorem expert_at (c : Dev nD) (t : Fin 2048) (d : Fin 768) :
    (show FVec Ideal S2048x768 .f32 from Expert.final (W3 m) c) (ix2 t d)
      = ∑ e : Fin 64, Expert.term (rows m c) (m ((c.tc : Thread nD τ).loc main_arg2)) (m ((c.tc : Thread nD τ).loc main_arg3))
          (m ((c.tc : Thread nD τ).loc main_arg4))
          (Router.combine (F := Ideal) (rows m c) (m ((c.tc : Thread nD τ).loc main_arg1))) t d e := by
  refine (Expert.final_at (W3 m) c t d).trans ?_
  rw [W3_v1, W3_v2, W3_v3, W3_v4, W3_v5]

end Cert.KernelIdeal.Run
-- ==== Proof.RefValue.lean ====
/-
  The reference's result, entry by entry, with reals for floats.

  The composed term of the reference's operations is cut into named stages (`res_eq`), and each stage is read at an index:
  the softmax of the router scores, its eight greatest entries of each row, the combine weights they are scattered to
  (`comb_at`), the gated hidden rows of every expert, and the weighted sum of the experts' outputs (`mix_at`).
-/
module

public import proofs.«01_k».proof.Proof.Gen.ReferenceIdeal.Run
public import proofs.«01_k».proof.Proof.Order
public import Idealize.ShloMosaic.Lib.Pointwise

@[expose] public section

set_option maxRecDepth 16384

noncomputable section

namespace Cert.ReferenceIdeal.Stage

open Cert.ReferenceIdeal Cert.ReferenceIdeal.Gen
open Idealize.ShloMosaic Idealize.ShloMosaic.TcCoe Idealize.SL.Sem

/-! ## The result, stage by stage -/

/-- The router scores. -/
def logits (x : FVec Ideal S2048x768 .f32) (wg : FVec Ideal S64x768 .f32) : FVec Ideal S2048x64 .f32 :=
  Host.dotGeneral dot_S2048x768_S768x64_S2048x64_1_0_0_1_n_n none x
    (transpose S768x64 [1, 0] wg transposes_S64x768_S768x64_1_0)

/-- The scores shifted by the row maximum, exponentiated. -/
def expo (l : FVec Ideal S2048x64 .f32) : FVec Ideal S2048x64 .f32 :=
  Host.exp (subf l (broadcastInDim S2048x64 ![0, 1] bcast_S2048x1_S2048x64_0_1
    (broadcastInDim S2048x1 ![0] bcast_S2048_S2048x1_0
      (maximumf (broadcastInDim S2048 ![] bcast_S_S2048 (constant S_ .f32 0xFF800000#32))
        (Host.reduce FloatOps.maximumf l (constant S_ .f32 0xFF800000#32) reducesTo_S2048x64_S2048_d1 h_S_)))))

/-- The softmax. -/
def soft (l : FVec Ideal S2048x64 .f32) : FVec Ideal S2048x64 .f32 :=
  Host.divf (expo l) (broadcastInDim S2048x64 ![0, 1] bcast_S2048x1_S2048x64_0_1
    (broadcastInDim S2048x1 ![0] bcast_S2048_S2048x1_0
      (Host.reduceAdd (expo l) (constant S_ .f32 0x00000000#32) reducesTo_S2048x64_S2048_d1 h_S_)))

/-- The eight greatest of each row. -/
def topVal (p : FVec Ideal S2048x64 .f32) : FVec Ideal S2048x8 .f32 :=
  (Host.topK S2048x8 1 (FloatOps.cmpfTotal (F := Ideal) (φ := .f32) .gt) p sliceFits_S2048x64_S2048x8).1

/-- Their lanes. -/
def topIdx (p : FVec Ideal S2048x64 .f32) : IVec S2048x8 32 :=
  (Host.topK S2048x8 1 (FloatOps.cmpfTotal (F := Ideal) (φ := .f32) .gt) p sliceFits_S2048x64_S2048x8).2

/-- The eight greatest over their sum. -/
def share (v : FVec Ideal S2048x8 .f32) : FVec Ideal S2048x8 .f32 :=
  Host.divf v (broadcastInDim S2048x8 ![0, 1] bcast_S2048x1_S2048x8_0_1
    (broadcastInDim S2048x1 ![0] bcast_S2048_S2048x1_0
      (Host.reduceAdd v (constant S_ .f32 0x00000000#32) reducesTo_S2048x8_S2048_d1 h_S_)))

/-- The row and lane each share is added at. -/
def target (k : IVec S2048x8 32) : IVec S2048x8x2 32 :=
  concatenate S2048x8x2 2 [⟨S2048x8x1, (broadcastInDim S2048x8x1 ![0, 1] bcast_S2048x8_S2048x8x1_0_1
      (broadcastInDim S2048x8 ![0, 1] bcast_S2048x1_S2048x8_0_1
        (select (cmpi .slt (broadcastInDim S2048x1 ![0] bcast_S2048_S2048x1_0 (iotaInDim S2048 32 0))
            (broadcastInDim S2048x1 ![] bcast_S_S2048x1 (constantI S_ 32 0#32)))
          (addi (broadcastInDim S2048x1 ![0] bcast_S2048_S2048x1_0 (iotaInDim S2048 32 0))
            (broadcastInDim S2048x1 ![] bcast_S_S2048x1 (constantI S_ 32 2048#32)))
          (broadcastInDim S2048x1 ![0] bcast_S2048_S2048x1_0 (iotaInDim S2048 32 0)))))⟩,
    ⟨S2048x8x1, (broadcastInDim S2048x8x1 ![0, 1] bcast_S2048x8_S2048x8x1_0_1
      (select (cmpi .slt k (broadcastInDim S2048x8 ![] bcast_S_S2048x8 (constantI S_ 32 0#32)))
        (addi k (broadcastInDim S2048x8 ![] bcast_S_S2048x8 (constantI S_ 32 64#32))) k))⟩]
    concatenates_S2048x8x1_S2048x8x1_S2048x8x2_d2

/-- The combine weights. -/
def comb (p : FVec Ideal S2048x64 .f32) : FVec Ideal S2048x64 .f32 :=
  Host.scatterAdd scatter_S2048x64_S2048x8x2_S2048x8_n_01_01_2
    (broadcastInDim S2048x64 ![] bcast_S_S2048x64 (constant (F := Ideal) S_ .f32 0x00000000#32))
    (target (topIdx p)) (share (topVal p))

/-- One hidden projection of every expert. -/
def proj (x : FVec Ideal S2048x768 .f32) (w : FVec Ideal S64x768x384 .f32) : FVec Ideal S64x2048x384 .f32 :=
  transpose S64x2048x384 [0, 2, 1]
    (Host.dotGeneral dot_S64x768x384_S2048x768_S64x384x2048_1_1_02_0_n_n none w x)
    transposes_S64x384x2048_S64x2048x384_0_2_1

/-- The gated hidden rows. -/
def hidden (a b : FVec Ideal S64x2048x384 .f32) : FVec Ideal S64x2048x384 .f32 :=
  mulf (mulf a (Host.divf (broadcastInDim S64x2048x384 ![] bcast_S_S64x2048x384 (constant S_ .f32 0x3F800000#32))
    (addf (broadcastInDim S64x2048x384 ![] bcast_S_S64x2048x384 (constant S_ .f32 0x3F800000#32))
      (Host.exp (Host.negf a))))) b

/-- The weighted sum of the experts' outputs. -/
def mix (cw : FVec Ideal S2048x64 .f32) (h : FVec Ideal S64x2048x384 .f32) (w2 : FVec Ideal S64x384x768 .f32) :
    FVec Ideal S2048x768 .f32 :=
  Host.dotGeneral dot_S2048x64_S64x2048x768_S2048x768_1_0_n_2_0_1 none cw
    (Host.dotGeneral dot_S64x2048x384_S64x384x768_S64x2048x768_2_1_1_2_0_0 none h w2)

/-- The whole result. -/
def whole (X : FVec Ideal S1x2048x768 .f32) (wg : FVec Ideal S64x768 .f32) (w1 w3 : FVec Ideal S64x768x384 .f32)
    (w2 : FVec Ideal S64x384x768 .f32) : FVec Ideal S1x2048x768 .f32 :=
  shapeCast S1x2048x768
    (mix (comb (soft (logits (shapeCast S2048x768 X shapeCasts_S1x2048x768_S2048x768) wg)))
      (hidden (proj (shapeCast S2048x768 X shapeCasts_S1x2048x768_S2048x768) w1)
        (proj (shapeCast S2048x768 X shapeCasts_S1x2048x768_S2048x768) w3)) w2)
    shapeCasts_S2048x768_S1x2048x768

theorem res_eq (m : (ℓ : Loc nD τ sig) → Buf (Elt Ideal) ℓ) (c : Dev nD) :
    Cert.ReferenceIdeal.Value.res_main_v44 (F := Ideal) m c
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Cert.ReferenceIdeal.Value.res_main_v44
  rfl

theorem logits_at (x : FVec Ideal S2048x768 .f32) (wg : FVec Ideal S64x768 .f32) (t : Fin 2048) (i : Fin 64) :
    logits x wg (ix2 t i) = ∑ k : Fin 768, x (ix2 t k) * wg (ix2 i k) := by
  pointwise [logits]

theorem bot_bits : Ideal.ofBits .f32 0xFF800000#32 = (⊥ : EReal) := by simp [Ideal.ofBits, Ideal.ieee]

theorem soft_at (l : FVec Ideal S2048x64 .f32) (t : Fin 2048) (i : Fin 64) :
    soft l (ix2 t i) = Cert.Row.probs (fun i => l (ix2 t i)) i := by
  pointwise [soft, expo, bot_bits]
  simp only [max_eq_right (bot_le (α := EReal))]
  rfl

theorem share_at (v : FVec Ideal S2048x8 .f32) (t : Fin 2048) (k : Fin 8) :
    share v (ix2 t k) = Ideal.div (v (ix2 t k)) (∑ j : Fin 8, v (ix2 t j)) := by
  pointwise [share]

/-! ## The eight greatest -/

theorem along_row (t : Fin 2048) (i k : Fin 64) :
    (ix2 t i : S2048x64.Idx).along (1 : Fin 2) k = ix2 t k := by
  funext a
  match a with
  | 0 => rfl
  | 1 => rfl

theorem order_eq (p : FVec Ideal S2048x64 .f32) (t : Fin 2048) (i : Fin 64) :
    (fun k k' : Fin 64 => FloatOps.cmpfTotal (F := Ideal) (φ := .f32) CmpDirection.gt
        (p ((ix2 t i : S2048x64.Idx).along (1 : Fin 2) k)) (p ((ix2 t i : S2048x64.Idx).along (1 : Fin 2) k')) == 1#1)
      = Cert.Row.greater (fun i => p (ix2 t i)) := by
  funext k k'
  rw [along_row, along_row]
  show (BitVec.ofBool (decide (p (ix2 t k') < p (ix2 t k))) == 1#1) = decide (p (ix2 t k') < p (ix2 t k))
  cases decide (p (ix2 t k') < p (ix2 t k)) <;> rfl

/-- The lane at place `k` of row `t`. -/
def lane (p : FVec Ideal S2048x64 .f32) (t : Fin 2048) (k : Fin 8) : Fin 64 :=
  Cert.Row.place (fun i => p (ix2 t i)) (k.castLE (by decide))

attribute [local irreducible] sortedFrom

theorem lane_of (p : FVec Ideal S2048x64 .f32) (t : Fin 2048) (k : Fin 8) (i : Fin 64) (hk : k.val < 64) :
    sortedFrom (fun k k' : Fin 64 => FloatOps.cmpfTotal (F := Ideal) (φ := .f32) CmpDirection.gt
        (p ((ix2 t i : S2048x64.Idx).along (1 : Fin 2) k)) (p ((ix2 t i : S2048x64.Idx).along (1 : Fin 2) k')) == 1#1)
      ⟨k.val, hk⟩ = lane p t k := by
  rw [order_eq, ← Cert.Row.place_def]
  rfl

theorem topVal_at (p : FVec Ideal S2048x64 .f32) (t : Fin 2048) (k : Fin 8) :
    topVal p (ix2 t k) = p (ix2 t (lane p t k)) := by
  have hk : k.val < 64 := lt_trans k.isLt (by decide)
  unfold topVal Host.topK Host.sort2
  pointwise
  refine congrArg p (Eq.trans ?_ (along_row t ⟨k.val, hk⟩ (lane p t k)))
  exact congrArg (Shape.Idx.along (ix2 t (⟨k.val, hk⟩ : Fin 64) : S2048x64.Idx) (1 : Fin 2)) (lane_of p t k ⟨k.val, hk⟩ hk)

theorem topIdx_at (p : FVec Ideal S2048x64 .f32) (t : Fin 2048) (k : Fin 8) :
    topIdx p (ix2 t k) = BitVec.ofNat 32 (lane p t k).val := by
  have hk : k.val < 64 := lt_trans k.isLt (by decide)
  unfold topIdx Host.topK Host.sort2
  pointwise
  refine congrArg (fun j : S2048x64.Idx => BitVec.ofNat 32 (j (1 : Fin 2)).val)
    (Eq.trans ?_ (along_row t ⟨k.val, hk⟩ (lane p t k)))
  exact congrArg (Shape.Idx.along (ix2 t (⟨k.val, hk⟩ : Fin 64) : S2048x64.Idx) (1 : Fin 2)) (lane_of p t k ⟨k.val, hk⟩ hk)

/-! ## The scatter -/

theorem row_word (t : Fin 2048) :
    Scalar.select (IntOp.cmpi .slt (BitVec.ofNat 32 t.val) 0#32) (IntOp.addi (BitVec.ofNat 32 t.val) 2048#32)
      (BitVec.ofNat 32 t.val) = BitVec.ofNat 32 t.val := by
  have h : IntOp.cmpi .slt (BitVec.ofNat 32 t.val) 0#32 = 0#1 := by
    revert t; decide
  rw [h]; rfl

theorem lane_word (i : Fin 64) :
    Scalar.select (IntOp.cmpi .slt (BitVec.ofNat 32 i.val) 0#32) (IntOp.addi (BitVec.ofNat 32 i.val) 64#32)
      (BitVec.ofNat 32 i.val) = BitVec.ofNat 32 i.val := by
  have h : IntOp.cmpi .slt (BitVec.ofNat 32 i.val) 0#32 = 0#1 := by
    revert i; decide
  rw [h]; rfl

theorem target0_at (v : IVec S2048x8 32) (t : Fin 2048) (k : Fin 8) :
    target v (ix3 t k 0) = BitVec.ofNat 32 t.val := by
  pointwise [target]
  exact row_word t

theorem target1_at (v : IVec S2048x8 32) (t : Fin 2048) (k : Fin 8) (i : Fin 64) (h : v (ix2 t k) = BitVec.ofNat 32 i.val) :
    target v (ix3 t k 1) = BitVec.ofNat 32 i.val := by
  pointwise [target]
  rw [h]
  exact lane_word i

abbrev sd := scatter_S2048x64_S2048x8x2_S2048x8_n_01_01_2

theorem start0 (idx : IVec S2048x8x2 32) (t : Fin 2048) (k : Fin 8) :
    sd.start (ix2 t k) idx (0 : Fin 2) = (idx (ix3 t k 0)).toInt := by
  unfold ScatterDims.start
  rw [dif_pos (show (0 : Fin 2) ∈ sd.scatterDimsToOperandDims by decide)]
  refine congrArg (fun j => (idx j).toInt) ?_
  funext a
  match a with
  | 0 => rfl
  | 1 => rfl
  | 2 => rfl

theorem start1 (idx : IVec S2048x8x2 32) (t : Fin 2048) (k : Fin 8) :
    sd.start (ix2 t k) idx (1 : Fin 2) = (idx (ix3 t k 1)).toInt := by
  unfold ScatterDims.start
  rw [dif_pos (show (1 : Fin 2) ∈ sd.scatterDimsToOperandDims by decide)]
  refine congrArg (fun j => (idx j).toInt) ?_
  funext a
  match a with
  | 0 => rfl
  | 1 => rfl
  | 2 => rfl

theorem window0 (j : S2048x8.Idx) (a : Fin 2) : sd.window j a = 0 := by
  unfold ScatterDims.window
  rw [dif_neg (by revert a; decide)]

theorem row_toInt (t : Fin 2048) : (BitVec.ofNat 32 t.val).toInt = (t.val : ℤ) := by
  have := t.isLt
  exact (BitVec.toInt_ofNat' ..).trans (Int.bmod_eq_of_le (by omega) (by omega))

theorem lane_toInt (i : Fin 64) : (BitVec.ofNat 32 i.val).toInt = (i.val : ℤ) := by
  have := i.isLt
  exact (BitVec.toInt_ofNat' ..).trans (Int.bmod_eq_of_le (by omega) (by omega))

/-- An update whose index vector names row `t` and lane `i` lands there. -/
theorem lands (idx : IVec S2048x8x2 32) (t : Fin 2048) (k : Fin 8) (i : Fin 64)
    (h0 : idx (ix3 t k 0) = BitVec.ofNat 32 t.val) (h1 : idx (ix3 t k 1) = BitVec.ofNat 32 i.val) :
    sd.resultIdx? (ix2 t k) idx = some (ix2 t i) := by
  have e0 : sd.start (ix2 t k) idx (0 : Fin 2) = (t.val : ℤ) := by rw [start0, h0, row_toInt]
  have e1 : sd.start (ix2 t k) idx (1 : Fin 2) = (i.val : ℤ) := by rw [start1, h1, lane_toInt]
  have ht := t.isLt
  have hi := i.isLt
  unfold ScatterDims.resultIdx?
  rw [dif_pos]
  · refine congrArg some ?_
    funext a
    match a with
    | 0 =>
      refine Fin.ext ?_
      show (sd.start (ix2 t k) idx (0 : Fin 2) + (sd.window (ix2 t k) (0 : Fin 2) : ℕ)).toNat = t.val
      rw [e0, window0]; omega
    | 1 =>
      refine Fin.ext ?_
      show (sd.start (ix2 t k) idx (1 : Fin 2) + (sd.window (ix2 t k) (1 : Fin 2) : ℕ)).toNat = i.val
      rw [e1, window0]; omega
  · intro a
    match a with
    | 0 =>
      show 0 ≤ sd.start (ix2 t k) idx (0 : Fin 2) + (sd.window (ix2 t k) (0 : Fin 2) : ℕ)
        ∧ sd.start (ix2 t k) idx (0 : Fin 2) + (sd.window (ix2 t k) (0 : Fin 2) : ℕ) < ((2048 : ℕ) : ℤ)
      rw [e0, window0]; omega
    | 1 =>
      show 0 ≤ sd.start (ix2 t k) idx (1 : Fin 2) + (sd.window (ix2 t k) (1 : Fin 2) : ℕ)
        ∧ sd.start (ix2 t k) idx (1 : Fin 2) + (sd.window (ix2 t k) (1 : Fin 2) : ℕ) < ((64 : ℕ) : ℤ)
      rw [e1, window0]; omega

/-- Adding one share per row and place, at lanes `e`, sums at each entry the shares that name it. -/
theorem scatter_at (x : FVec Ideal S2048x64 .f32) (idx : IVec S2048x8x2 32) (u : FVec Ideal S2048x8 .f32)
    (e : Fin 2048 → Fin 8 → Fin 64) (h0 : ∀ t k, idx (ix3 t k 0) = BitVec.ofNat 32 t.val)
    (h1 : ∀ t k, idx (ix3 t k 1) = BitVec.ofNat 32 (e t k).val) (t : Fin 2048) (i : Fin 64) :
    Host.scatterAdd sd x idx u (ix2 t i) = x (ix2 t i) + ∑ k : Fin 8, if e t k = i then u (ix2 t k) else 0 := by
  show x (ix2 t i) + ∑ j ∈ Finset.univ.filter (fun j => sd.resultIdx? j idx = some (ix2 t i)), u j = _
  refine congrArg (x (ix2 t i) + ·) ?_
  rw [Finset.sum_filter, sum_idx2]
  have hl : ∀ (a : Fin 2048) (b : Fin 8),
      (sd.resultIdx? (ix2 a b) idx = some (ix2 t i)) ↔ a = t ∧ e a b = i := by
    intro a b
    rw [lands idx a b (e a b) (h0 a b) (h1 a b), Option.some_inj, ix2_inj]
  rw [Finset.sum_eq_single t]
  · refine Finset.sum_congr rfl fun b _ => ?_
    by_cases h : e t b = i
    · rw [if_pos ((hl t b).mpr ⟨rfl, h⟩), if_pos h]
    · rw [if_neg fun h' => h ((hl t b).mp h').2, if_neg h]
  · intro a _ ha
    exact Finset.sum_eq_zero fun b _ => if_neg fun h' => ha ((hl a b).mp h').1
  · intro h; exact absurd (Finset.mem_univ t) h

/-- The combine weights of row `t`: the weights of that row. -/
theorem comb_at (p : FVec Ideal S2048x64 .f32) (t : Fin 2048) (i : Fin 64) :
    comb p (ix2 t i) = Cert.Row.weights (fun i => p (ix2 t i)) i := by
  classical
  unfold comb
  rw [scatter_at _ _ _ (lane p) (fun t k => target0_at _ t k) (fun t k => target1_at _ t k _ (topIdx_at p t k))]
  have hz : (broadcastInDim S2048x64 ![] bcast_S_S2048x64 (constant (F := Ideal) S_ .f32 0x00000000#32)) (ix2 t i)
      = (0 : EReal) := by pointwise
  rw [hz, zero_add]
  have hs : ∀ k : Fin 8, share (topVal p) (ix2 t k)
      = Ideal.div (p (ix2 t (lane p t k))) (Cert.Row.topSum fun i => p (ix2 t i)) := by
    intro k
    rw [share_at, topVal_at]
    refine congrArg _ ?_
    unfold Cert.Row.topSum
    exact Finset.sum_congr rfl fun j _ => topVal_at p t j
  simp only [hs]
  unfold Cert.Row.weights
  by_cases h : Cert.Row.among (fun i => p (ix2 t i)) 8 i
  · rw [if_pos h]
    obtain ⟨m, hm, rfl⟩ := h
    rw [Finset.sum_eq_single (⟨m.val, hm⟩ : Fin 8)]
    · exact if_pos rfl
    · intro b _ hb
      refine if_neg fun h' => hb ?_
      have := Cert.Row.place_injective _ h'
      exact Fin.ext (show b.val = m.val from congrArg Fin.val this)
    · intro h; exact absurd (Finset.mem_univ _) h
  · rw [if_neg h]
    exact Finset.sum_eq_zero fun k _ => if_neg fun h' => h ⟨k.castLE (by decide), k.isLt, h'⟩

/-! ## The experts -/

theorem proj_at (x : FVec Ideal S2048x768 .f32) (w : FVec Ideal S64x768x384 .f32) (e : Fin 64) (t : Fin 2048) (f : Fin 384) :
    proj x w (ix3 e t f) = ∑ k : Fin 768, w (ix3 e k f) * x (ix2 t k) := by
  pointwise [proj]

theorem hidden_at (a b : FVec Ideal S64x2048x384 .f32) (e : Fin 64) (t : Fin 2048) (f : Fin 384) :
    hidden a b (ix3 e t f)
      = a (ix3 e t f) * Ideal.logistic (a (ix3 e t f)) * b (ix3 e t f) := by
  pointwise [hidden]
  rfl

theorem mix_at (cw : FVec Ideal S2048x64 .f32) (h : FVec Ideal S64x2048x384 .f32) (w2 : FVec Ideal S64x384x768 .f32)
    (t : Fin 2048) (d : Fin 768) :
    mix cw h w2 (ix2 t d) = ∑ e : Fin 64, cw (ix2 t e) * ∑ f : Fin 384, h (ix3 e t f) * w2 (ix3 e f d) := by
  pointwise [mix]

end Cert.ReferenceIdeal.Stage
-- ==== Proof.Equal.lean ====
/-
  The two programs' results are equal, with reals for floats.

  Both are, at each token and feature, the sum over the experts of the token's combine weight times the expert's gated
  output. The combine weights agree by the module `Order`. The hidden projections differ only in the order of the two
  factors under the sum.
-/
module

public import proofs.«01_k».proof.Proof.KernelValue
public import proofs.«01_k».proof.Proof.RefValue

@[expose] public section

set_option maxRecDepth 16384

noncomputable section

namespace Cert.Equal

open Idealize.ShloMosaic Idealize.ShloMosaic.TcCoe Idealize.SL.Sem

section
open Cert.ReferenceIdeal Cert.ReferenceIdeal.Gen

/-- At each token and feature, the reference's sum over the experts is the kernel's. -/
theorem mix_eq (x : FVec Ideal S2048x768 .f32) (wg : FVec Ideal S64x768 .f32) (w1 w3 : FVec Ideal S64x768x384 .f32)
    (w2 : FVec Ideal S64x384x768 .f32) (t : Fin 2048) (d : Fin 768) :
    Stage.mix (Stage.comb (Stage.soft (Stage.logits x wg))) (Stage.hidden (Stage.proj x w1) (Stage.proj x w3)) w2 (ix2 t d)
      = ∑ e : Fin 64, Cert.KernelIdeal.Expert.term x w1 w3 w2 (Cert.KernelIdeal.Router.combine (F := Ideal) x wg) t d e := by
  rw [Stage.mix_at]
  refine Finset.sum_congr rfl fun e _ => ?_
  unfold Cert.KernelIdeal.Expert.term
  have hs : (fun i => Stage.soft (Stage.logits x wg) (ix2 t i)) = Cert.Row.probs (Cert.KernelIdeal.Router.scores x wg t) := by
    funext i
    rw [Stage.soft_at]
    refine congrArg (fun l => Cert.Row.probs l i) ?_
    funext j
    exact Stage.logits_at x wg t j
  have hc : Stage.comb (Stage.soft (Stage.logits x wg)) (ix2 t e)
      = Cert.KernelIdeal.Router.combine (F := Ideal) x wg (ix2 t e) := by
    rw [Stage.comb_at, hs]
    exact (Cert.KernelIdeal.Router.combine_at x wg t e).symm
  have hp : ∀ (w : FVec Ideal S64x768x384 .f32) (f : Fin 384),
      Stage.proj x w (ix3 e t f) = Cert.KernelIdeal.Expert.hid x w e t f := by
    intro w f
    rw [Stage.proj_at]
    exact Finset.sum_congr rfl fun k _ => mul_comm _ _
  refine congrArg₂ (· * ·) hc (Finset.sum_congr rfl fun f _ => ?_)
  rw [Stage.hidden_at, hp, hp]

end

/-- The kernel's result is the reference's on the same arguments. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v44 (F := Ideal) m' c
      = Cert.KernelIdeal.Gen.V5 m (Cert.KernelIdeal.Run.outs m) c Cert.KernelIdeal.main_v0 := by
  rw [Cert.ReferenceIdeal.Stage.res_eq, h0, h1, h2, h3, h4, Cert.KernelIdeal.Run.V5_v0]
  unfold Cert.ReferenceIdeal.Stage.whole
  refine congrArg (fun y => shapeCast Cert.KernelIdeal.S1x2048x768 y Cert.KernelIdeal.Gen.shapeCasts_S2048x768_S1x2048x768) ?_
  funext j
  rw [eq_ix2 j]
  exact (mix_eq _ _ _ _ _ (j 0) (j 1)).trans (Cert.KernelIdeal.Run.expert_at m c (j 0) (j 1)).symm

end Cert.Equal
-- ==== Proof.lean ====
/-
  The certificate's claim, from its parts: the kernel's frame at the machine's floats and at the ideal ones, the reference's
  frame, the idealization, which rewrote nothing, and the equality of the two results at the ideal floats.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Kernel.Run
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The kernel at the machine's floats: every execution ends, the arguments as launched, every counter at zero. -/
theorem frame_kernel : quiescent_Kernel (hKernel := Cert.Kernel.Gen.facts) := fun m ρ _ =>
  (θ_run _ _ _).mono (fun r h => ⟨fun c => (h.1 c).2, h.2⟩) (Cert.Kernel.Run.run m ρ)

/-- The kernel at the ideal floats, likewise. -/
theorem frame_kernelIdeal : quiescent_KernelIdeal (hKernelIdeal := Cert.KernelIdeal.Gen.facts) := fun m ρ _ =>
  (θ_run _ _ _).mono (fun r h => ⟨fun c => (h.1 c).2, h.2⟩) (Cert.KernelIdeal.Run.run m ρ)

/-- The reference at the ideal floats, likewise. -/
theorem frame_referenceIdeal : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The kernel and the reference, at the ideal floats, on the same arguments: both end with the same result, the arguments
    as launched. -/
theorem equal : algebraic_KernelIdeal_ReferenceIdeal (hKernelIdeal := Cert.KernelIdeal.Gen.facts)
    (hReferenceIdeal := Cert.ReferenceIdeal.Gen.facts) := fun m g m' g' _ hargs =>
  ⟨fun c => Cert.KernelIdeal.Gen.V5 m (Cert.KernelIdeal.Run.outs m) c Cert.KernelIdeal.main_v0,
    (θ_run _ _ _).mono (fun r h => h.1) (Cert.KernelIdeal.Run.run m g),
    (θ_run _ _ _).mono (fun r h c => by
      obtain ⟨h0, h1, h2, h3, h4⟩ := hargs c
      exact ⟨(h c).1.trans (Cert.Equal.result m m' c h0 h1 h2 h3 h4), (h c).2⟩) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, equal⟩

end Cert.Proof

end
